-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11)
      ∧ r.2.mem ((c.tc : Thread Cert.Rwkv.nD Cert.Rwkv.τ).loc Cert.Rwkv.main_arg12) = m ((c.tc : Thread Cert.Rwkv.nD Cert.Rwkv.τ).loc Cert.Rwkv.main_arg12)
      ∧ r.2.mem ((c.tc : Thread Cert.Rwkv.nD Cert.Rwkv.τ).loc Cert.Rwkv.main_arg13) = m ((c.tc : Thread Cert.Rwkv.nD Cert.Rwkv.τ).loc Cert.Rwkv.main_arg13))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
      ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
      ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v248) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v17) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Rwkv_RwkvIdeal : Prop :=
  True

def Claim : Prop :=
  ∃ (hKernel : Cert.Kernel.Facts) (hKernelIdeal : Cert.KernelIdeal.Facts) (hReferenceIdeal : Cert.ReferenceIdeal.Facts) (hConv : Cert.Conv.Facts) (hConvIdeal : Cert.ConvIdeal.Facts) (hConvRefIdeal : Cert.ConvRefIdeal.Facts) (hOut : Cert.Out.Facts) (hOutIdeal : Cert.OutIdeal.Facts) (hOutRefIdeal : Cert.OutRefIdeal.Facts) (hRwkv : Cert.Rwkv.Facts) (hRwkvIdeal : Cert.RwkvIdeal.Facts),
    quiescent_Kernel (hKernel := hKernel)
    ∧ quiescent_KernelIdeal (hKernelIdeal := hKernelIdeal)
    ∧ quiescent_ReferenceIdeal (hReferenceIdeal := hReferenceIdeal)
    ∧ quiescent_Conv (hConv := hConv)
    ∧ quiescent_ConvIdeal (hConvIdeal := hConvIdeal)
    ∧ quiescent_ConvRefIdeal (hConvRefIdeal := hConvRefIdeal)
    ∧ quiescent_Out (hOut := hOut)
    ∧ quiescent_OutIdeal (hOutIdeal := hOutIdeal)
    ∧ quiescent_OutRefIdeal (hOutRefIdeal := hOutRefIdeal)
    ∧ quiescent_Rwkv (hRwkv := hRwkv)
    ∧ quiescent_RwkvIdeal (hRwkvIdeal := hRwkvIdeal)
    ∧ preserves_Kernel_KernelIdeal
    ∧ algebraic_KernelIdeal_ReferenceIdeal (hKernelIdeal := hKernelIdeal) (hReferenceIdeal := hReferenceIdeal)
    ∧ preserves_Conv_ConvIdeal
    ∧ algebraic_ConvIdeal_ConvRefIdeal (hConvIdeal := hConvIdeal) (hConvRefIdeal := hConvRefIdeal)
    ∧ preserves_Out_OutIdeal
    ∧ algebraic_OutIdeal_OutRefIdeal (hOutIdeal := hOutIdeal) (hOutRefIdeal := hOutRefIdeal)
    ∧ preserves_Rwkv_RwkvIdeal
-- ==== Kernel.lean ====
abbrev S4x8192x1024 : Shape := ⟨3, ![4, 8192, 1024]⟩
abbrev S1024 : Shape := ⟨1, ![1024]⟩
abbrev S1024x3712 : Shape := ⟨2, ![1024, 3712]⟩
abbrev S2176 : Shape := ⟨1, ![2176]⟩
abbrev S32768x1024 : Shape := ⟨2, ![32768, 1024]⟩
abbrev S1x1024 : Shape := ⟨2, ![1, 1024]⟩
abbrev S1024x2176 : Shape := ⟨2, ![1024, 2176]⟩
abbrev S1024x1536 : Shape := ⟨2, ![1024, 1536]⟩
abbrev S1x2176 : Shape := ⟨2, ![1, 2176]⟩
abbrev S32768x2176 : Shape := ⟨2, ![32768, 2176]⟩
abbrev S512x1024 : Shape := ⟨2, ![512, 1024]⟩
abbrev S512x2176 : Shape := ⟨2, ![512, 2176]⟩
abbrev S8x2176 : Shape := ⟨2, ![8, 2176]⟩
abbrev S512 : Shape := ⟨1, ![512]⟩
abbrev S512x1 : Shape := ⟨2, ![512, 1]⟩
abbrev S512x512 : Shape := ⟨2, ![512, 512]⟩
abbrev S512x1536 : Shape := ⟨2, ![512, 1536]⟩
abbrev S512x128 : Shape := ⟨2, ![512, 128]⟩

abbrev nBuf : Space → Nat
  | .hbm => 12
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3712, .f32⟩
  | .hbm, ⟨3, _⟩ => ⟨S2176, .f32⟩
  | .hbm, ⟨4, _⟩ => ⟨S1024x3712, .bf16⟩
  | .hbm, ⟨5, _⟩ => ⟨S32768x1024, .f32⟩
  | .hbm, ⟨6, _⟩ => ⟨S1x1024, .f32⟩
  | .hbm, ⟨7, _⟩ => ⟨S1024x2176, .bf16⟩
  | .hbm, ⟨8, _⟩ => ⟨S1024x1536, .bf16⟩
  | .hbm, ⟨9, _⟩ => ⟨S1x2176, .f32⟩
  | .hbm, ⟨10, _⟩ => ⟨S32768x2176, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1024x1536, .bf16⟩
  | .local _ .vmem, ⟨5, _⟩ => ⟨S1x2176, .f32⟩
  | .local _ .vmem, ⟨6, _⟩ => ⟨S512x2176, .f32⟩
  | .local _ .vmem, ⟨7, _⟩ => ⟨S512x2176, .f32⟩
  | .local _ .vmem, ⟨8, _⟩ => ⟨S512x1024, .f32⟩
  | .local _ .vmem, ⟨9, _⟩ => ⟨S512x1024, .f32⟩
  | .local _ .vmem, ⟨10, _⟩ => ⟨S8x2176, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x8192x1024 : Shape := ⟨3, ![4, 8192, 1024]⟩
abbrev S1024 : Shape := ⟨1, ![1024]⟩
abbrev S1024x3712 : Shape := ⟨2, ![1024, 3712]⟩
abbrev S2176 : Shape := ⟨1, ![2176]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3712 : Shape := ⟨3, ![4, 8192, 3712]⟩
abbrev S4x8192x2176 : Shape := ⟨3, ![4, 8192, 2176]⟩
abbrev S4x8193x2176 : Shape := ⟨3, ![4, 8193, 2176]⟩
abbrev S1x1x2176 : Shape := ⟨3, ![1, 1, 2176]⟩
abbrev S4x8192x512 : Shape := ⟨3, ![4, 8192, 512]⟩
abbrev S4x8192x1536 : Shape := ⟨3, ![4, 8192, 1536]⟩
abbrev S4x8192x128 : Shape := ⟨3, ![4, 8192, 128]⟩
abbrev S32768x2176 : Shape := ⟨2, ![32768, 2176]⟩
abbrev S32768x1024 : Shape := ⟨2, ![32768, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3712, .f32⟩
  | .hbm, ⟨3, _⟩ => ⟨S2176, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S4x8192x3712, .f32⟩
  | .hbm, ⟨21, _⟩ => ⟨S4x8192x2176, .f32⟩
  | .hbm, ⟨22, _⟩ => ⟨S_, .i32⟩
  | .hbm, ⟨23, _⟩ => ⟨S_, .f32⟩
  | .hbm, ⟨24, _⟩ => ⟨S4x8193x2176, .f32⟩
  | .hbm, ⟨25, _⟩ => ⟨S4x8192x2176, .f32⟩
  | .hbm, ⟨26, _⟩ => ⟨S4x8192x2176, .f32⟩
  | .hbm, ⟨27, _⟩ => ⟨S1x1x2176, .f32⟩
  | .hbm, ⟨28, _⟩ => ⟨S4x8192x2176, .f32⟩
  | .hbm, ⟨29, _⟩ => ⟨S4x8192x2176, .f32⟩
  | .hbm, ⟨30, _⟩ => ⟨S4x8192x2176, .f32⟩
  | .hbm, ⟨31, _⟩ => ⟨S4x8192x512, .f32⟩
  | .hbm, ⟨32, _⟩ => ⟨S4x8192x1536, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x1536, .f32⟩
  | .hbm, ⟨37, _⟩ => ⟨S4x8192x512, .f32⟩
  | .hbm, ⟨38, _⟩ => ⟨S4x8192x512, .f32⟩
  | .hbm, ⟨39, _⟩ => ⟨S_, .f32⟩
  | .hbm, ⟨40, _⟩ => ⟨S4x8192x512, .f32⟩
  | .hbm, ⟨41, _⟩ => ⟨S4x8192x512, .f32⟩
  | .hbm, ⟨42, _⟩ => ⟨S_, .f32⟩
  | .hbm, ⟨43, _⟩ => ⟨S4x8192x512, .f32⟩
  | .hbm, ⟨44, _⟩ => ⟨S4x8192x512, .f32⟩
  | .hbm, ⟨45, _⟩ => ⟨S4x8192x512, .f32⟩
  | .hbm, ⟨46, _⟩ => ⟨S4x8192x128, .f32⟩
  | .hbm, ⟨47, _⟩ => ⟨S4x8192x2176, .f32⟩
  | .hbm, ⟨48, _⟩ => ⟨S4x8192x512, .f32⟩
  | .hbm, ⟨49, _⟩ => ⟨S4x8192x512, .f32⟩
  | .hbm, ⟨50, _⟩ => ⟨S_, .f32⟩
  | .hbm, ⟨51, _⟩ => ⟨S4x8192x512, .f32⟩
  | .hbm, ⟨52, _⟩ => ⟨S4x8192x512, .f32⟩
  | .hbm, ⟨53, _⟩ => ⟨S_, .f32⟩
  | .hbm, ⟨54, _⟩ => ⟨S4x8192x512, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S4x8192x512, .f32⟩
  | .hbm, ⟨59, _⟩ => ⟨S_, .f32⟩
  | .hbm, ⟨60, _⟩ => ⟨S4x8192x512, .f32⟩
  | .hbm, ⟨61, _⟩ => ⟨S4x8192x512, .f32⟩
  | .hbm, ⟨62, _⟩ => ⟨S_, .f32⟩
  | .hbm, ⟨63, _⟩ => ⟨S4x8192x512, .f32⟩
  | .hbm, ⟨64, _⟩ => ⟨S4x8192x512, .f32⟩
  | .hbm, ⟨65, _⟩ => ⟨S4x8192x512, .f32⟩
  | .hbm, ⟨66, _⟩ => ⟨S4x8192x1024, .f32⟩
  | .hbm, ⟨67, _⟩ => ⟨S32768x2176, .f32⟩
  | .hbm, ⟨68, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Conv.lean ====
abbrev S4x8192x1024 : Shape := ⟨3, ![4, 8192, 1024]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S4x8192x512 : Shape := ⟨3, ![4, 8192, 512]⟩
abbrev S1x256x1024 : Shape := ⟨3, ![1, 256, 1024]⟩
abbrev S1x256x512 : Shape := ⟨3, ![1, 256, 512]⟩
abbrev S296x512 : Shape := ⟨2, ![296, 512]⟩
abbrev S3x288x512 : Shape := ⟨3, ![3, 288, 512]⟩
abbrev S8x512 : Shape := ⟨2, ![8, 512]⟩
abbrev S256x512 : Shape := ⟨2, ![256, 512]⟩
abbrev S288x512 : Shape := ⟨2, ![288, 512]⟩
abbrev S1x288x512 : Shape := ⟨3, ![1, 288, 512]⟩
abbrev S264x512 : Shape := ⟨2, ![264, 512]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S32x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S4x8192x512, .bf16⟩
  | .local _ .vmem, ⟨0, _⟩ => ⟨S1x256x1024, .f32⟩
  | .local _ .vmem, ⟨1, _⟩ => ⟨S1x256x1024, .f32⟩
  | .local _ .vmem, ⟨2, _⟩ => ⟨S32x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x256x512, .bf16⟩
  | .local _ .vmem, ⟨7, _⟩ => ⟨S1x256x512, .bf16⟩
  | .local _ .vmem, ⟨8, _⟩ => ⟨S296x512, .f32⟩
  | .local _ .vmem, ⟨9, _⟩ => ⟨S3x288x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S4x8192x1024 : Shape := ⟨3, ![4, 8192, 1024]⟩
abbrev S31x512 : Shape := ⟨2, ![31, 512]⟩
abbrev S512 : Shape := ⟨1, ![512]⟩
abbrev S4x8192x512 : Shape := ⟨3, ![4, 8192, 512]⟩
abbrev S_ : Shape := ⟨0, ![]⟩
abbrev S4x8222x512 : Shape := ⟨3, ![4, 8222, 512]⟩
abbrev S1x512 : Shape := ⟨2, ![1, 512]⟩
abbrev S1x1x512 : Shape := ⟨3, ![1, 1, 512]⟩
abbrev S4x8192 : Shape := ⟨2, ![4, 8192]⟩
abbrev S4x8192x1 : Shape := ⟨3, ![4, 8192, 1]⟩

abbrev nBuf : Space → Nat
  | .hbm => 269
  | .vmem => 0
  | .smem => 0
  | _ => 0

abbrev hbmTy0_0 (i : Nat) : BufTy := match i % 128 with
  | 0 => ⟨S4x8192x1024, .f32⟩
  | 1 => ⟨S31x512, .f32⟩
  | 2 => ⟨S512, .f32⟩
  | 3 => ⟨S512, .f32⟩
  | 4 => ⟨S512, .f32⟩
  | 5 => ⟨S4x8192x512, .f32⟩
  | 6 => ⟨S4x8192x512, .f32⟩
  | 7 => ⟨S_, .i32⟩
  | 8 => ⟨S_, .f32⟩
  | 9 => ⟨S4x8222x512, .f32⟩
  | 10 => ⟨S4x8192x512, .f32⟩
  | 11 => ⟨S1x512, .f32⟩
  | 12 => ⟨S512, .f32⟩
  | 13 => ⟨S1x1x512, .f32⟩
  | 14 => ⟨S4x8192x512, .f32⟩
  | 15 => ⟨S4x8192x512, .f32⟩
  | 16 => ⟨S4x8192x512, .f32⟩
  | 17 => ⟨S1x512, .f32⟩
  | 18 => ⟨S512, .f32⟩
  | 19 => ⟨S1x1x512, .f32⟩
  | 20 => ⟨S4x8192x512, .f32⟩
  | 21 => ⟨S4x8192x512, .f32⟩
  | 22 => ⟨S4x8192x512, .f32⟩
  | 23 => ⟨S4x8192x512, .f32⟩
  | 24 => ⟨S1x512, .f32⟩
  | 25 => ⟨S512, .f32⟩
  | 26 => ⟨S1x1x512, .f32⟩
  | 27 => ⟨S4x8192x512, .f32⟩
  | 28 => ⟨S4x8192x512, .f32⟩
  | 29 => ⟨S4x8192x512, .f32⟩
  | 30 => ⟨S4x8192x512, .f32⟩
  | 31 => ⟨S1x512, .f32⟩
  | 32 => ⟨S512, .f32⟩
  | 33 => ⟨S1x1x512, .f32⟩
  | 34 => ⟨S4x8192x512, .f32⟩
  | 35 => ⟨S4x8192x512, .f32⟩
  | 36 => ⟨S4x8192x512, .f32⟩
  | 37 => ⟨S4x8192x512, .f32⟩
  | 38 => ⟨S1x512, .f32⟩
  | 39 => ⟨S512, .f32⟩
  | 40 => ⟨S1x1x512, .f32⟩
  | 41 => ⟨S4x8192x512, .f32⟩
  | 42 => ⟨S4x8192x512, .f32⟩
  | 43 => ⟨S4x8192x512, .f32⟩
  | 44 => ⟨S4x8192x512, .f32⟩
  | 45 => ⟨S1x512, .f32⟩
  | 46 => ⟨S512, .f32⟩
  | 47 => ⟨S1x1x512, .f32⟩
  | 48 => ⟨S4x8192x512, .f32⟩
  | 49 => ⟨S4x8192x512, .f32⟩
  | 50 => ⟨S4x8192x512, .f32⟩
  | 51 => ⟨S4x8192x512, .f32⟩
  | 52 => ⟨S1x512, .f32⟩
  | 53 => ⟨S512, .f32⟩
  | 54 => ⟨S1x1x512, .f32⟩
  | 55 => ⟨S4x8192x512, .f32⟩
  | 56 => ⟨S4x8192x512, .f32⟩
  | 57 => ⟨S4x8192x512, .f32⟩
  | 58 => ⟨S4x8192x512, .f32⟩
  | 59 => ⟨S1x512, .f32⟩
  | 60 => ⟨S512, .f32⟩
  | 61 => ⟨S1x1x512, .f32⟩
  | 62 => ⟨S4x8192x512, .f32⟩
  | 63 => ⟨S4x8192x512, .f32⟩
  | 64 => ⟨S4x8192x512, .f32⟩
  | 65 => ⟨S4x8192x512, .f32⟩
  | 66 => ⟨S1x512, .f32⟩
  | 67 => ⟨S512, .f32⟩
  | 68 => ⟨S1x1x512, .f32⟩
  | 69 => ⟨S4x8192x512, .f32⟩
  | 70 => ⟨S4x8192x512, .f32⟩
  | 71 => ⟨S4x8192x512, .f32⟩
  | 72 => ⟨S4x8192x512, .f32⟩
  | 73 => ⟨S1x512, .f32⟩
  | 74 => ⟨S512, .f32⟩
  | 75 => ⟨S1x1x512, .f32⟩
  | 76 => ⟨S4x8192x512, .f32⟩
  | 77 => ⟨S4x8192x512, .f32⟩
  | 78 => ⟨S4x8192x512, .f32⟩
  | 79 => ⟨S4x8192x512, .f32⟩
  | 80 => ⟨S1x512, .f32⟩
  | 81 => ⟨S512, .f32⟩
  | 82 => ⟨S1x1x512, .f32⟩
  | 83 => ⟨S4x8192x512, .f32⟩
  | 84 => ⟨S4x8192x512, .f32⟩
  | 85 => ⟨S4x8192x512, .f32⟩
  | 86 => ⟨S4x8192x512, .f32⟩
  | 87 => ⟨S1x512, .f32⟩
  | 88 => ⟨S512, .f32⟩
  | 89 => ⟨S1x1x512, .f32⟩
  | 90 => ⟨S4x8192x512, .f32⟩
  | 91 => ⟨S4x8192x512, .f32⟩
  | 92 => ⟨S4x8192x512, .f32⟩
  | 93 => ⟨S4x8192x512, .f32⟩
  | 94 => ⟨S1x512, .f32⟩
  | 95 => ⟨S512, .f32⟩
  | 96 => ⟨S1x1x512, .f32⟩
  | 97 => ⟨S4x8192x512, .f32⟩
  | 98 => ⟨S4x8192x512, .f32⟩
  | 99 => ⟨S4x8192x512, .f32⟩
  | 100 => ⟨S4x8192x512, .f32⟩
  | 101 => ⟨S1x512, .f32⟩
  | 102 => ⟨S512, .f32⟩
  | 103 => ⟨S1x1x512, .f32⟩
  | 104 => ⟨S4x8192x512, .f32⟩
  | 105 => ⟨S4x8192x512, .f32⟩
  | 106 => ⟨S4x8192x512, .f32⟩
  | 107 => ⟨S4x8192x512, .f32⟩
  | 108 => ⟨S1x512, .f32⟩
  | 109 => ⟨S512, .f32⟩
  | 110 => ⟨S1x1x512, .f32⟩
  | 111 => ⟨S4x8192x512, .f32⟩
  | 112 => ⟨S4x8192x512, .f32⟩
  | 113 => ⟨S4x8192x512, .f32⟩
  | 114 => ⟨S4x8192x512, .f32⟩
  | 115 => ⟨S1x512, .f32⟩
  | 116 => ⟨S512, .f32⟩
  | 117 => ⟨S1x1x512, .f32⟩
  | 118 => ⟨S4x8192x512, .f32⟩
  | 119 => ⟨S4x8192x512, .f32⟩
  | 120 => ⟨S4x8192x512, .f32⟩
  | 121 => ⟨S4x8192x512, .f32⟩
  | 122 => ⟨S1x512, .f32⟩
  | 123 => ⟨S512, .f32⟩
  | 124 => ⟨S1x1x512, .f32⟩
  | 125 => ⟨S4x8192x512, .f32⟩
  | 126 => ⟨S4x8192x512, .f32⟩
  | 127 => ⟨S4x8192x512, .f32⟩
  | _ => ⟨S4x8192x1024, .f32⟩

abbrev hbmTy0_1 (i : Nat) : BufTy := match i % 128 with
  | 0 => ⟨S4x8192x512, .f32⟩
  | 1 => ⟨S1x512, .f32⟩
  | 2 => ⟨S512, .f32⟩
  | 3 => ⟨S1x1x512, .f32⟩
  | 4 => ⟨S4x8192x512, .f32⟩
  | 5 => ⟨S4x8192x512, .f32⟩
  | 6 => ⟨S4x8192x512, .f32⟩
  | 7 => ⟨S4x8192x512, .f32⟩
  | 8 => ⟨S1x512, .f32⟩
  | 9 => ⟨S512, .f32⟩
  | 10 => ⟨S1x1x512, .f32⟩
  | 11 => ⟨S4x8192x512, .f32⟩
  | 12 => ⟨S4x8192x512, .f32⟩
  | 13 => ⟨S4x8192x512, .f32⟩
  | 14 => ⟨S4x8192x512, .f32⟩
  | 15 => ⟨S1x512, .f32⟩
  | 16 => ⟨S512, .f32⟩
  | 17 => ⟨S1x1x512, .f32⟩
  | 18 => ⟨S4x8192x512, .f32⟩
  | 19 => ⟨S4x8192x512, .f32⟩
  | 20 => ⟨S4x8192x512, .f32⟩
  | 21 => ⟨S4x8192x512, .f32⟩
  | 22 => ⟨S1x512, .f32⟩
  | 23 => ⟨S512, .f32⟩
  | 24 => ⟨S1x1x512, .f32⟩
  | 25 => ⟨S4x8192x512, .f32⟩
  | 26 => ⟨S4x8192x512, .f32⟩
  | 27 => ⟨S4x8192x512, .f32⟩
  | 28 => ⟨S4x8192x512, .f32⟩
  | 29 => ⟨S1x512, .f32⟩
  | 30 => ⟨S512, .f32⟩
  | 31 => ⟨S1x1x512, .f32⟩
  | 32 => ⟨S4x8192x512, .f32⟩
  | 33 => ⟨S4x8192x512, .f32⟩
  | 34 => ⟨S4x8192x512, .f32⟩
  | 35 => ⟨S4x8192x512, .f32⟩
  | 36 => ⟨S1x512, .f32⟩
  | 37 => ⟨S512, .f32⟩
  | 38 => ⟨S1x1x512, .f32⟩
  | 39 => ⟨S4x8192x512, .f32⟩
  | 40 => ⟨S4x8192x512, .f32⟩
  | 41 => ⟨S4x8192x512, .f32⟩
  | 42 => ⟨S4x8192x512, .f32⟩
  | 43 => ⟨S1x512, .f32⟩
  | 44 => ⟨S512, .f32⟩
  | 45 => ⟨S1x1x512, .f32⟩
  | 46 => ⟨S4x8192x512, .f32⟩
  | 47 => ⟨S4x8192x512, .f32⟩
  | 48 => ⟨S4x8192x512, .f32⟩
  | 49 => ⟨S4x8192x512, .f32⟩
  | 50 => ⟨S1x512, .f32⟩
  | 51 => ⟨S512, .f32⟩
  | 52 => ⟨S1x1x512, .f32⟩
  | 53 => ⟨S4x8192x512, .f32⟩
  | 54 => ⟨S4x8192x512, .f32⟩
  | 55 => ⟨S4x8192x512, .f32⟩
  | 56 => ⟨S4x8192x512, .f32⟩
  | 57 => ⟨S1x512, .f32⟩
  | 58 => ⟨S512, .f32⟩
  | 59 => ⟨S1x1x512, .f32⟩
  | 60 => ⟨S4x8192x512, .f32⟩
  | 61 => ⟨S4x8192x512, .f32⟩
  | 62 => ⟨S4x8192x512, .f32⟩
  | 63 => ⟨S4x8192x512, .f32⟩
  | 64 => ⟨S1x512, .f32⟩
  | 65 => ⟨S512, .f32⟩
  | 66 => ⟨S1x1x512, .f32⟩
  | 67 => ⟨S4x8192x512, .f32⟩
  | 68 => ⟨S4x8192x512, .f32⟩
  | 69 => ⟨S4x8192x512, .f32⟩
  | 70 => ⟨S4x8192x512, .f32⟩
  | 71 => ⟨S1x512, .f32⟩
  | 72 => ⟨S512, .f32⟩
  | 73 => ⟨S1x1x512, .f32⟩
  | 74 => ⟨S4x8192x512, .f32⟩
  | 75 => ⟨S4x8192x512, .f32⟩
  | 76 => ⟨S4x8192x512, .f32⟩
  | 77 => ⟨S4x8192x512, .f32⟩
  | 78 => ⟨S1x512, .f32⟩
  | 79 => ⟨S512, .f32⟩
  | 80 => ⟨S1x1x512, .f32⟩
  | 81 => ⟨S4x8192x512, .f32⟩
  | 82 => ⟨S4x8192x512, .f32⟩
  | 83 => ⟨S4x8192x512, .f32⟩
  | 84 => ⟨S4x8192x512, .f32⟩
  | 85 => ⟨S1x512, .f32⟩
  | 86 => ⟨S512, .f32⟩
  | 87 => ⟨S1x1x512, .f32⟩
  | 88 => ⟨S4x8192x512, .f32⟩
  | 89 => ⟨S4x8192x512, .f32⟩
  | 90 => ⟨S4x8192x512, .f32⟩
  | 91 => ⟨S4x8192x512, .f32⟩
  | 92 => ⟨S1x512, .f32⟩
  | 93 => ⟨S512, .f32⟩
  | 94 => ⟨S1x1x512, .f32⟩
  | 95 => ⟨S4x8192x512, .f32⟩
  | 96 => ⟨S4x8192x512, .f32⟩
  | 97 => ⟨S4x8192x512, .f32⟩
  | 98 => ⟨S1x1x512, .f32⟩
  | 99 => ⟨S4x8192x512, .f32⟩
  | 100 => ⟨S4x8192x512, .f32⟩
  | 101 => ⟨S_, .f32⟩
  | 102 => ⟨S4x8192, .f32⟩
  | 103 => ⟨S4x8192x1, .f32⟩
  | 104 => ⟨S_, .f32⟩
  | 105 => ⟨S4x8192x1, .f32⟩
  | 106 => ⟨S4x8192x1, .f32⟩
  | 107 => ⟨S4x8192x512, .f32⟩
  | 108 => ⟨S4x8192x512, .f32⟩
  | 109 => ⟨S4x8192x512, .f32⟩
  | 110 => ⟨S_, .f32⟩
  | 111 => ⟨S4x8192, .f32⟩
  | 112 => ⟨S4x8192x1, .f32⟩
  | 113 => ⟨S_, .f32⟩
  | 114 => ⟨S4x8192x1, .f32⟩
  | 115 => ⟨S4x8192x1, .f32⟩
  | 116 => ⟨S4x8192x512, .f32⟩
  | 117 => ⟨S4x8192x512, .f32⟩
  | 118 => ⟨S_, .f32⟩
  | 119 => ⟨S4x8192x1, .f32⟩
  | 120 => ⟨S4x8192x1, .f32⟩
  | 121 => ⟨S4x8192x1, .f32⟩
  | 122 => ⟨S4x8192x512, .f32⟩
  | 123 => ⟨S4x8192x512, .f32⟩
  | 124 => ⟨S1x1x512, .f32⟩
  | 125 => ⟨S4x8192x512, .f32⟩
  | 126 => ⟨S4x8192x512, .f32⟩
  | 127 => ⟨S1x1x512, .f32⟩
  | _ => ⟨S4x8192x1024, .f32⟩

abbrev hbmTy0_2 (i : Nat) : BufTy := match i % 128 with
  | 0 => ⟨S4x8192x512, .f32⟩
  | 1 => ⟨S4x8192x512, .f32⟩
  | 2 => ⟨S4x8192x512, .f32⟩
  | 3 => ⟨S4x8192x512, .f32⟩
  | 4 => ⟨S_, .f32⟩
  | 5 => ⟨S4x8192x512, .f32⟩
  | 6 => ⟨S4x8192x512, .f32⟩
  | 7 => ⟨S_, .f32⟩
  | 8 => ⟨S4x8192x512, .f32⟩
  | 9 => ⟨S4x8192x512, .f32⟩
  | 10 => ⟨S4x8192x512, .f32⟩
  | 11 => ⟨S4x8192x512, .f32⟩
  | 12 => ⟨S4x8192x512, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_cst : Ref sig .tc := ⟨.hbm, 229, rfl⟩
abbrev main_v222 : Ref sig .tc := ⟨.hbm, 230, rfl⟩
abbrev main_v223 : Ref sig .tc := ⟨.hbm, 231, rfl⟩
abbrev main_cst_0 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_cst_1 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_call1_v0 : Ref sig .tc := ⟨.hbm, 258, rfl⟩
abbrev main_call1_v1 : Ref sig .tc := ⟨.hbm, 259, rfl⟩
abbrev main_call1_cst : Ref sig .tc := ⟨.hbm, 260, rfl⟩
abbrev main_call1_v2 : Ref sig .tc := ⟨.hbm, 261, rfl⟩
abbrev main_call1_v3 : Ref sig .tc := ⟨.hbm, 262, rfl⟩
abbrev main_call1_cst_0 : Ref sig .tc := ⟨.hbm, 263, rfl⟩
abbrev main_call1_v4 : Ref sig .tc := ⟨.hbm, 264, rfl⟩
abbrev main_call1_v5 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩

abbrev nD : Nat := 1
abbrev τ : Topo := Topo.v7x

variable {F : FTy → Type} [FloatOps F]
-- ==== Out.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S32768x1024, .f32⟩
  | .hbm, ⟨7, _⟩ => ⟨S32768x512, .bf16⟩
  | .hbm, ⟨8, _⟩ => ⟨S32768x512, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1024x1024, .f32⟩
  | .hbm, ⟨4, _⟩ => ⟨S1024, .f32⟩
  | .hbm, ⟨5, _⟩ => ⟨S4x8192x1024, .bf16⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Rwkv.lean ====
abbrev S4x8192x2176 : Shape := ⟨3, ![4, 8192, 2176]⟩
abbrev S4x8192x512 : Shape := ⟨3, ![4, 8192, 512]⟩
abbrev S512 : Shape := ⟨1, ![512]⟩
abbrev S64x512 : Shape := ⟨2, ![64, 512]⟩
abbrev S512x32 : Shape := ⟨2, ![512, 32]⟩
abbrev S32x512 : Shape := ⟨2, ![32, 512]⟩
abbrev S8x64 : Shape := ⟨2, ![8, 64]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x512 : Shape := ⟨2, ![1, 512]⟩
abbrev S1x1024x2176 : Shape := ⟨3, ![1, 1024, 2176]⟩
abbrev S1x1024x512 : Shape := ⟨3, ![1, 1024, 512]⟩
abbrev S1x8x64x64 : Shape := ⟨4, ![1, 8, 64, 64]⟩
abbrev S64x64 : Shape := ⟨2, ![64, 64]⟩
abbrev S1024x2176 : Shape := ⟨2, ![1024, 2176]⟩
abbrev S128x512 : Shape := ⟨2, ![128, 512]⟩
abbrev S128x64 : Shape := ⟨2, ![128, 64]⟩
abbrev S128x32 : Shape := ⟨2, ![128, 32]⟩
abbrev S1x128x512 : Shape := ⟨3, ![1, 128, 512]⟩
abbrev S1024x128 : Shape := ⟨2, ![1024, 128]⟩
abbrev S1024x512 : Shape := ⟨2, ![1024, 512]⟩
abbrev S512x128 : Shape := ⟨2, ![512, 128]⟩
abbrev S64x128 : Shape := ⟨2, ![64, 128]⟩
abbrev S1x64 : Shape := ⟨2, ![1, 64]⟩
abbrev S8x64x64 : Shape := ⟨3, ![8, 64, 64]⟩
abbrev S1x64x64 : Shape := ⟨3, ![1, 64, 64]⟩

abbrev nBuf : Space → Nat
  | .hbm => 48
  | .vmem => 22
  | .smem => 0
  | _ => 0

abbrev bufTy : (tb : Table) → Fin (tcTables nBuf tb) → BufTy
  | .hbm, ⟨0, _⟩ => ⟨S4x8192x2176, .f32⟩
  | .hbm, ⟨1, _⟩ => ⟨S4x8192x512, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S512x32, .f32⟩
  | .hbm, ⟨8, _⟩ => ⟨S32x512, .f32⟩
  | .hbm, ⟨9, _⟩ => ⟨S512, .f32⟩
  | .hbm, ⟨10, _⟩ => ⟨S512, .f32⟩
  | .hbm, ⟨11, _⟩ => ⟨S8x64, .f32⟩
  | .hbm, ⟨12, _⟩ => ⟨S512, .f32⟩
  | .hbm, ⟨13, _⟩ => ⟨S512, .f32⟩
  | .hbm, ⟨14, _⟩ => ⟨S128, .i32⟩
  | .hbm, ⟨15, _⟩ => ⟨S_, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S128, .i1⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S128x1, .i32⟩
  | .hbm, ⟨34, _⟩ => ⟨S1x128, .i32⟩
  | .hbm, ⟨35, _⟩ => ⟨S128x128, .i32⟩
  | .hbm, ⟨36, _⟩ => ⟨S128x128, .i32⟩
  | .hbm, ⟨37, _⟩ => ⟨S128x128, .i1⟩
  | .hbm, ⟨38, _⟩ => ⟨S128x128, .bf16⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S4x8192x512, .bf16⟩
  | .local _ .vmem, ⟨0, _⟩ => ⟨S1x1024x2176, .f32⟩
  | .local _ .vmem, ⟨1, _⟩ => ⟨S1x1024x2176, .f32⟩
  | .local _ .vmem, ⟨2, _⟩ => ⟨S1x1024x512, .f32⟩
  | .local _ .vmem, ⟨3, _⟩ => ⟨S1x1024x512, .f32⟩
  | .local _ .vmem, ⟨4, _⟩ => ⟨S1x512, .f32⟩
  | .local _ .vmem, ⟨5, _⟩ => ⟨S64x512, .f32⟩
  | .local _ .vmem, ⟨6, _⟩ => ⟨S1x512, .f32⟩
  | .local _ .vmem, ⟨7, _⟩ => ⟨S64x512, .f32⟩
  | .local _ .vmem, ⟨8, _⟩ => ⟨S1x512, .f32⟩
  | .local _ .vmem, ⟨9, _⟩ => ⟨S512x32, .f32⟩
  | .local _ .vmem, ⟨10, _⟩ => ⟨S32x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S128x128, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x8x64x64, .f32⟩
  | .local _ .vmem, ⟨20, _⟩ => ⟨S1x1024x512, .f32⟩
  | .local _ .vmem, ⟨21, _⟩ => ⟨S1x1024x512, .f32⟩
  | _, _ => ⟨S4x8192x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Proof.InprojValue.lean ====
/-
  The combined input projection: the kernel's two result arrays are the reference's composed terms of the same arguments.
-/
module

public import proofs.«01_k».proof.Proof.Gen.KernelIdeal.Value
public import proofs.«01_k».proof.Proof.Gen.ReferenceIdeal.Read
public import Idealize.ShloMosaic.Lib.Pipeline.ValueKit
public import Idealize.ShloMosaic.Lib.Pipeline.ReadBack
public import Idealize.ShloMosaic.Lib.WordCmp

@[expose] public section

set_option maxRecDepth 16384

noncomputable section

namespace Cert.Proof.InprojTie

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- A row number of the flat array, from a point and a row of its block. -/
abbrev row (t : Fin cfg0.N) (r : Fin 512) : Fin 32768 := ⟨t.val * 512 + r.val, by have := t.isLt; have h : cfg0.N = 64 := rfl; omega⟩

/-- The activations' block, read at a row and a column. -/
theorem blk0 (c : Dev nD) (t : Fin cfg0.N) (r : Fin 512) (k : Fin 1024) : iblk m c 0 t (ix2 r k)
    = m ((c : Thread nD τ).loc main_arg0) (ix3 ⟨(row t r).val / 8192, by omega⟩ ⟨(row t r).val % 8192, by omega⟩ k) := by
  blk_simp [iblk]; entry_read; pointwise; blk_ext [idx t]

/-- The gain. -/
theorem blk1 (c : Dev nD) (t : Fin cfg0.N) (k : Fin 1024) : iblk m c 1 t (ix2 0 k)
    = m ((c : Thread nD τ).loc main_arg1) (ix1 k) := by
  blk_simp [iblk]; entry_read; pointwise; blk_ext [idx t]

/-- The weights' first columns. -/
theorem blk2 (c : Dev nD) (t : Fin cfg0.N) (k : Fin 1024) (l : Fin 2176) : iblk m c 2 t (ix2 k l)
    = m ((c : Thread nD τ).loc main_arg2) (ix2 k ⟨l.val, by omega⟩) := by
  blk_simp [iblk]; entry_read; pointwise; blk_ext [idx t]

/-- The weights' last columns. -/
theorem blk3 (c : Dev nD) (t : Fin cfg0.N) (k : Fin 1024) (l : Fin 1536) : iblk m c 3 t (ix2 k l)
    = m ((c : Thread nD τ).loc main_arg2) (ix2 k ⟨2176 + l.val, by omega⟩) := by
  blk_simp [iblk]; entry_read; pointwise; blk_ext [idx t]

/-- The mixing coefficients. -/
theorem blk4 (c : Dev nD) (t : Fin cfg0.N) (l : Fin 2176) : iblk m c 4 t (ix2 0 l)
    = m ((c : Thread nD τ).loc main_arg3) (ix1 l) := by
  blk_simp [iblk]; entry_read; pointwise; blk_ext [idx t]

/-- The reference's projection of the normalised activations, all columns. -/
abbrev proj (c : Dev nD) : FVec Ideal Cert.ReferenceIdeal.S4x8192x3712 .f32 :=
  val_main_v13 (F := Ideal) (m ((c : Thread nD τ).loc main_arg0)) (m ((c : Thread nD τ).loc main_arg1)) (m ((c : Thread nD τ).loc main_arg2))

/-- A point's product with the first columns is the reference's projection at its rows. -/
theorem prod_a (c : Dev nD) (t : Fin cfg0.N) (r : Fin 512) (l : Fin 2176) :
    k0_pay5 (iblk m c 0 t) (iblk m c 1 t) (iblk m c 2 t) (ix2 r l)
      = proj m c (ix3 ⟨(row t r).val / 8192, by omega⟩ ⟨(row t r).val % 8192, by omega⟩ ⟨l.val, by omega⟩) := by
  pointwise [k0_pay5, k0_pay4, proj, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, blk0, blk1, blk2]

/-- A point's product with the last columns is the reference's projection at its rows. -/
theorem prod_c (c : Dev nD) (t : Fin cfg0.N) (r : Fin 512) (l : Fin 1536) :
    k0_pay12 (k0_pay4 (iblk m c 0 t) (iblk m c 1 t)) (iblk m c 3 t) (ix2 r l)
      = proj m c (ix3 ⟨(row t r).val / 8192, by omega⟩ ⟨(row t r).val % 8192, by omega⟩ ⟨2176 + l.val, by omega⟩) := by
  pointwise [k0_pay12, k0_pay4, proj, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, blk0, blk1, blk3]

/-- A point's rows mixed with the rows before them; row 0's predecessor is given. -/
def shift (p : FVec Ideal S512x2176 .f32) (before mu : FVec Ideal S1x2176 .f32) (r : Fin 512) (l : Fin 2176) : EReal :=
  p (ix2 r l) + ((if r.val = 0 then before (ix2 0 l) else p (ix2 ⟨r.val - 1, by omega⟩ l)) - p (ix2 r l)) * mu (ix2 0 l)

/-- `a` times its logistic function. -/
def silu (a : EReal) : EReal := a * Ideal.div 1 (1 + Ideal.exp (0 - a))

/-- The kernel's mixed rows, read at a row and a column. -/
theorem mix (p : FVec Ideal S512x2176 .f32) (before mu : FVec Ideal S1x2176 .f32) (r : Fin 512) (l : Fin 2176) :
    k0_pay8 p k0_pay6 before mu (ix2 r l) = shift p before mu r l := by
  pointwise [k0_pay8, k0_pay6, shift]
  have hc : IntOp.cmpi CmpIPredicate.eq (BitVec.ofNat 32 r.val) 0#32 = BitVec.ofBool (decide (r.val = 0)) :=
    WordCmp.cmpi_eq_ofNat (by omega) (by omega)
  rw [hc, WordCmp.select_ofBool]
  by_cases h : r.val = 0
  · simp only [h, decide_true, ↓reduceIte]
  · have e : (r.val + 512 - 1) % 512 = r.val - 1 := by omega
    simp only [h, decide_false, ↓reduceIte, e, Bool.false_eq_true]

/-- What a point leaves in the first output at a row and a column: the mixed row, with the gate's nonlinearity in its 512 columns. -/
def tgt (u : Fin 2176 → EReal) (l : Fin 2176) : EReal :=
  if 1536 ≤ l.val ∧ l.val < 2048 then silu (u l) else u l

/-- In the gate's columns. -/
theorem tgt_in (u : Fin 2176 → EReal) {l : Fin 2176} (h : 1536 ≤ l.val ∧ l.val < 2048) : tgt u l = silu (u l) := if_pos h

/-- In the other columns. -/
theorem tgt_out (u : Fin 2176 → EReal) {l : Fin 2176} (h : ¬(1536 ≤ l.val ∧ l.val < 2048)) : tgt u l = u l := if_neg h

/-- The three stores of a point's first output, read at a row and a column. -/
theorem tiles (p : FVec Ideal S512x2176 .f32) (before mu : FVec Ideal S1x2176 .f32) (r : Fin 512) (l : Fin 2176) :
    View.canon (Val := Elt Ideal) (s := S512x2176) (e := .f32)
      [⟨Rect.unit ![0, 2048] ![512, 128] inb_S512x2176_S512x128_0_2048, k0_pay11 p k0_pay6 before mu⟩,
        ⟨Rect.unit ![0, 1536] ![512, 512] inb_S512x2176_S512x512_0_1536, k0_pay10 p k0_pay6 before mu⟩,
        ⟨Rect.unit ![0, 0] ![512, 1536] inb_S512x2176_S512x1536_0_0, k0_pay9 p k0_pay6 before mu⟩] (ix2 r l)
      = tgt (shift p before mu r) l := by
  canon_tiles x h using View.cover_of_tiledBy _ ![512, 128] (by sl_kernel_rfl) _
  all_goals idx_vars x
  all_goals obtain rfl : r = x0 := Fin.ext h0
  · obtain rfl : l = ⟨2048 + x1.val, Nat.add_lt_add_left x1.isLt 2048⟩ := Fin.ext h1
    rw [tgt, if_neg (by simp)]
    pointwise [k0_pay11, mix]
  · obtain rfl : l = ⟨1536 + x1.val, lt_trans (Nat.add_lt_add_left x1.isLt 1536) (by decide)⟩ := Fin.ext h1
    rw [tgt, if_pos ⟨by simp, by simp only; omega⟩]
    pointwise [k0_pay10, mix, silu]
  · obtain rfl : l = ⟨x1.val, lt_trans x1.isLt (by decide)⟩ := Fin.ext h1
    rw [tgt, if_neg (by simp only; omega)]
    pointwise [k0_pay9, mix]

/-- The reference's mixed rows, read at a batch, a row and a column. -/
theorem ref_mix (c : Dev nD) (b : Fin 4) (s : Fin 8192) (l : Fin 2176) :
    val_main_v21 (F := Ideal) (m ((c : Thread nD τ).loc main_arg0)) (m ((c : Thread nD τ).loc main_arg1)) (m ((c : Thread nD τ).loc main_arg2))
        (m ((c : Thread nD τ).loc main_arg3)) (ix3 b s l)
      = proj m c (ix3 b s ⟨l.val, by omega⟩) + ((if h : s.val = 0 then 0 else proj m c (ix3 b ⟨s.val - 1, by omega⟩ ⟨l.val, by omega⟩))
          - proj m c (ix3 b s ⟨l.val, by omega⟩)) * m ((c : Thread nD τ).loc main_arg3) (ix1 l) := by
  pointwise [val_main_v21, val_main_v20, val_main_v19, val_main_v18, val_main_v17, val_main_v16, val_main_v15, val_main_v14, val_main_call0_v0, val_main_c]
  by_cases h : s.val = 0
  · rw [dif_neg (by omega), dif_pos h]
    have z : (FloatOps.sitofp (F := Ideal) FTy.f32 (0#32) : Ideal FTy.f32) = 0 := by simp [FloatOps.sitofp]
    rw [z]
  · rw [dif_pos (by omega), dif_neg h]

/-- The reference's first result, read at a flat row and a column: its mixed rows, with the gate's nonlinearity in its 512 columns. -/
theorem ref_first (c : Dev nD) (i : Fin 32768) (l : Fin 2176) :
    val_main_v40 (F := Ideal) (m ((c : Thread nD τ).loc main_arg0)) (m ((c : Thread nD τ).loc main_arg1)) (m ((c : Thread nD τ).loc main_arg2))
        (m ((c : Thread nD τ).loc main_arg3)) (ix2 i l)
      = tgt (fun l' => val_main_v21 (F := Ideal) (m ((c : Thread nD τ).loc main_arg0)) (m ((c : Thread nD τ).loc main_arg1)) (m ((c : Thread nD τ).loc main_arg2))
        (m ((c : Thread nD τ).loc main_arg3))
          (ix3 ⟨i.val / 8192, by omega⟩ ⟨i.val % 8192, by omega⟩ l')) l := by
  pointwise [val_main_v40, val_main_v30, val_main_v29, val_main_v28, val_main_v27, val_main_v22, val_main_call1_v0, val_main_call1_v1, val_main_call1_v2, val_main_call1_v3, val_main_call1_v4, val_main_call1_v5, val_main_call1_cst, val_main_call1_cst_0]
  generalize val_main_v21 (F := Ideal) (m ((c : Thread nD τ).loc main_arg0)) (m ((c : Thread nD τ).loc main_arg1)) (m ((c : Thread nD τ).loc main_arg2))
    (m ((c : Thread nD τ).loc main_arg3)) = V
  by_cases h1 : l.val < 1536
  · rw [dif_pos h1, tgt_out _ (by omega)]
  · rw [dif_neg h1]
    by_cases h2 : l.val - 1536 < 512
    · rw [dif_pos h2, tgt_in _ (by omega)]
      have e : (⟨1536 + (l.val - 1536), by omega⟩ : Fin 2176) = l := Fin.ext (Nat.add_sub_cancel' (by omega))
      simp only [e, silu, zero_sub]
    · rw [dif_neg h2, tgt_out _ (by omega)]
      have e : (⟨2048 + (l.val - 1536 - 512), by omega⟩ : Fin 2176) = l := Fin.ext (show 2048 + (l.val - 1536 - 512) = l.val by omega)
      simp only [e]

/-- What a point hands to the next: the last row of its product with the first columns. -/
theorem carry (c : Dev nD) (t : Fin cfg0.N) (l : Fin 2176) :
    (outsAt0 m c t.val t.isLt).2.2 (ix2 0 l) = k0_pay5 (iblk m c 0 t) (iblk m c 1 t) (iblk m c 2 t) (ix2 511 l) := by
  by_cases h : t.val % 16 = 0
  · rw [outsAt0_A m c t h]; frame_out
    rw [show (ix2 0 l : S8x2176.Idx) = (Rect.unit ![0, 0] ![1, 2176] inb_S8x2176_S1x2176_0_0).emb (ix2 0 l) from by idx_ext, View.canon_cons_emb]
    pointwise [k0_pay7]
  · rw [outsAt0_B m c t h]; frame_out
    rw [show (ix2 0 l : S8x2176.Idx) = (Rect.unit ![0, 0] ![1, 2176] inb_S8x2176_S1x2176_0_0).emb (ix2 0 l) from by idx_ext, View.read_writes_cons_emb]
    pointwise [k0_pay7]

/-- The row before a point's first: the last row of the point before it, or zeros at the start of a sequence. -/
def before (c : Dev nD) (t : Fin cfg0.N) (l : Fin 2176) : EReal :=
  if h : t.val % 16 = 0 then 0 else
    proj m c (ix3 ⟨(t.val * 512 - 1) / 8192, by have := t.isLt; have h : cfg0.N = 64 := rfl; omega⟩ ⟨(t.val * 512 - 1) % 8192, by omega⟩ ⟨l.val, by omega⟩)

/-- A point's mixed rows are the reference's, once the row before them is. -/
theorem mixed (c : Dev nD) (t : Fin cfg0.N) (bf : FVec Ideal S1x2176 .f32) (hb : ∀ l, bf (ix2 0 l) = before m c t l) (r : Fin 512) (l : Fin 2176) :
    shift (k0_pay5 (iblk m c 0 t) (iblk m c 1 t) (iblk m c 2 t)) bf (iblk m c 4 t) r l
      = val_main_v21 (F := Ideal) (m ((c : Thread nD τ).loc main_arg0)) (m ((c : Thread nD τ).loc main_arg1)) (m ((c : Thread nD τ).loc main_arg2))
        (m ((c : Thread nD τ).loc main_arg3))
          (ix3 ⟨(row t r).val / 8192, by omega⟩ ⟨(row t r).val % 8192, by omega⟩ l) := by
  have ht : t.val < 64 := t.isLt
  rw [ref_mix, shift, prod_a, blk4, hb, before]
  congr 3
  by_cases hr : r.val = 0
  · rw [if_pos hr]
    by_cases h : t.val % 16 = 0
    · rw [dif_pos h, dif_pos (by simp only [row]; omega)]
    · rw [dif_neg h, dif_neg (by simp only [row]; omega)]
      congr 1
      idx_ext
      all_goals simp only [row] <;> omega
  · rw [if_neg hr, prod_a, dif_neg (by simp only [row]; omega)]
    congr 1
    idx_ext
    all_goals simp only [row] <;> omega

/-- Only row 0 of the row before enters. -/
theorem shift_congr {p : FVec Ideal S512x2176 .f32} {bf bf' mu : FVec Ideal S1x2176 .f32} {r : Fin 512} (hb : ∀ l, bf (ix2 0 l) = bf' (ix2 0 l)) :
    shift p bf mu r = shift p bf' mu r := by
  funext l
  rw [shift, shift, hb]

/-- A load of the scratch's row 0, read at a column. -/
theorem ld_row (X : FVec Ideal S8x2176 .f32) (l : Fin 2176) :
    View.ld (Val := Elt Ideal) (S := S8x2176) (e' := .f32) X (Rect.unit ![0, 0] ![1, 2176] inb_S8x2176_S1x2176_0_0) (ix2 0 l) = X (ix2 0 l) := by
  pointwise

/-- The first output's block, at a row and a column. -/
theorem first (c : Dev nD) (t : Fin cfg0.N) (r : Fin 512) (l : Fin 2176) :
    (outsAt0 m c t.val t.isLt).1 (ix2 r l)
      = val_main_v40 (F := Ideal) (m ((c : Thread nD τ).loc main_arg0)) (m ((c : Thread nD τ).loc main_arg1)) (m ((c : Thread nD τ).loc main_arg2))
        (m ((c : Thread nD τ).loc main_arg3)) (ix2 (row t r) l) := by
  have ht : t.val < 64 := t.isLt
  rw [ref_first, ← funext fun l' => mixed m c t (fun i => before m c t (i 1)) (fun _ => rfl) r l']
  by_cases h : t.val % 16 = 0
  · rw [outsAt0_A m c t h]; frame_out
    rw [tiles]
    refine congrArg (fun u => tgt u l) (shift_congr fun l => ?_)
    change _ = before m c t l
    rw [before, dif_pos h, View.readCov_fill _ _ _ _ _ (by decide)]
    pointwise [k0_pay3]
  · rw [outsAt0_B m c t h]; frame_out
    rw [tiles]
    refine congrArg (fun u => tgt u l) (shift_congr fun l => ?_)
    change _ = before m c t l
    rw [before, dif_neg h, read_unread_whole]
    refine (ld_row _ l).trans ((carry m c ⟨t.val - 1, by omega⟩ l).trans ((prod_a m c _ _ l).trans ?_))
    congr 1
    idx_ext

/-- The two stores of a point's second output, read at a row and a column, from the product `q` with the last columns. -/
theorem tiles2 (x : FVec Ideal S512x1024 .bf16) (w : FVec Ideal S1024x1536 .bf16) (r : Fin 512) (l : Fin 1024) (q : Fin 1536 → EReal)
    (hq : ∀ j, k0_pay12 x w (ix2 r j) = q j) :
    View.canon (Val := Elt Ideal) (s := S512x1024) (e := .f32)
      [⟨Rect.unit ![0, 512] ![512, 512] inb_S512x1024_S512x512_0_512, k0_pay2 (k0_pay13 x w)⟩,
        ⟨Rect.unit ![0, 0] ![512, 512] inb_S512x1024_S512x512_0_0, k0_pay1 (k0_pay14 x w) (k0_pay15 x w)⟩] (ix2 r l)
      = if h : l.val < 512 then q ⟨l.val, by omega⟩ * Ideal.div 1 (1 + Ideal.exp (0 - q ⟨512 + l.val, by omega⟩))
        else silu (q ⟨512 + l.val, by omega⟩) := by
  canon_tiles y h
  all_goals idx_vars y
  all_goals obtain rfl : r = y0 := Fin.ext h0
  · obtain rfl : l = ⟨512 + y1.val, Nat.add_lt_add_left y1.isLt 512⟩ := Fin.ext h1
    have e : 512 + (512 + y1.val) = 1024 + y1.val := by omega
    rw [dif_neg (by simp)]
    simp only [e]
    pointwise [k0_pay2, k0_pay13, hq, silu]
  · obtain rfl : l = ⟨y1.val, lt_trans y1.isLt (by decide)⟩ := Fin.ext h1
    rw [dif_pos (by simp only; omega)]
    pointwise [k0_pay1, k0_pay14, k0_pay15, hq]

attribute [local irreducible] val_main_v13 in
/-- The reference's second result, read at a flat row and a column, by its projection's last columns. -/
theorem ref_second (c : Dev nD) (i : Fin 32768) (l : Fin 1024) (q : Fin 1536 → EReal)
    (hq : ∀ j : Fin 1536, proj m c (ix3 ⟨i.val / 8192, by omega⟩ ⟨i.val % 8192, by omega⟩ ⟨2176 + j.val, by omega⟩) = q j) :
    val_main_v41 (F := Ideal) (m ((c : Thread nD τ).loc main_arg0)) (m ((c : Thread nD τ).loc main_arg1)) (m ((c : Thread nD τ).loc main_arg2)) (ix2 i l)
      = if h : l.val < 512 then q ⟨l.val, by omega⟩ * Ideal.div 1 (1 + Ideal.exp (0 - q ⟨512 + l.val, by omega⟩))
        else silu (q ⟨512 + l.val, by omega⟩) := by
  pointwise [val_main_v41, val_main_v39, val_main_v38, val_main_v37, val_main_v36, val_main_v35, val_main_v34, val_main_v33, val_main_v32, val_main_v31, val_main_v26, val_main_v25, val_main_v24, val_main_v23, val_main_cst_2, val_main_cst_3, val_main_call2_v0, val_main_call2_v1, val_main_call2_v2, val_main_call2_v3, val_main_call2_v4, val_main_call2_v5, val_main_call2_cst, val_main_call2_cst_0]
  by_cases h : l.val < 512
  · have h1 := hq ⟨l.val, by omega⟩
    have h2 := hq ⟨512 + l.val, by omega⟩
    simp only [proj] at h1 h2
    simp only [dif_pos h, h1, h2, zero_sub]
  · have e : 1024 + (l.val - 512) = 512 + l.val := by omega
    have h2 := hq ⟨512 + l.val, by omega⟩
    simp only [proj] at h2
    simp only [dif_neg h, silu, zero_sub, e, h2]

/-- The second output's block, at a row and a column. -/
theorem second (c : Dev nD) (t : Fin cfg0.N) (r : Fin 512) (l : Fin 1024) :
    (outsAt0 m c t.val t.isLt).2.1 (ix2 r l)
      = val_main_v41 (F := Ideal) (m ((c : Thread nD τ).loc main_arg0)) (m ((c : Thread nD τ).loc main_arg1)) (m ((c : Thread nD τ).loc main_arg2))
        (ix2 (row t r) l) := by
  rw [ref_second m c (row t r) l _ (fun j => (prod_c m c t r j).symm)]
  by_cases h : t.val % 16 = 0
  · rw [outsAt0_A m c t h]; frame_out
    exact tiles2 _ _ r l _ (fun _ => rfl)
  · rw [outsAt0_B m c t h]; frame_out
    exact tiles2 _ _ r l _ (fun _ => rfl)

/-- The first output array when every point has run. -/
theorem final5 (c : Dev nD) : (dats m 0 c).arrAt 5 (cfgs 0).N
    = val_main_v40 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  idx_vars y
  blk_simp
  rw [after0_5]
  refine (first m c t _ _).trans ?_
  congr 1
  blk_ext [idx t]

/-- The second output array when every point has run. -/
theorem final6 (c : Dev nD) : (dats m 0 c).arrAt 6 (cfgs 0).N
    = val_main_v41 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  idx_vars y
  blk_simp
  rw [after0_6]
  refine (second m c t _ _).trans ?_
  congr 1
  blk_ext [idx t]

end Cert.Proof.InprojTie
-- ==== Proof.ConvValue.lean ====
/-
  The convolution module: the kernel's result array is the reference's composed term of the same arguments.
-/
module

public import proofs.«01_k».proof.Proof.Gen.ConvIdeal.Value
public import proofs.«01_k».proof.Proof.Gen.ConvRefIdeal.Read
public import Idealize.ShloMosaic.Lib.Pipeline.ValueKit
public import Idealize.ShloMosaic.Lib.Pipeline.ReadBack
public import Idealize.ShloMosaic.Lib.WordCmp

@[expose] public section

set_option maxRecDepth 16384

noncomputable section

namespace Cert.Proof.ConvTie

open Idealize.ShloMosaic Idealize.ShloMosaic.TcCoe Idealize.SL.Sem
open Cert.ConvIdeal Cert.ConvIdeal.Gen
open Cert.ConvRefIdeal.Read

variable (m : (ℓ : Loc nD τ sig) → Buf (Elt Ideal) ℓ)

/-- Every window's block index at point `t`: the blocks of a sequence move with `t`, the taps and the normalisation's arrays stay. -/
theorem idx : ∀ t : Fin cfg0.N, win0_0.index t = ![t.val / 32, t.val % 32, 0] ∧ win0_1.index t = ![0, 0] ∧ win0_2.index t = ![0, 0]
    ∧ win0_3.index t = ![0, 0] ∧ win0_4.index t = ![0, 0] ∧ win0_5.index t = ![t.val / 32, t.val % 32, 0] :=
  (by decide +kernel : ∀ t : Fin grid0.N, _)

/-- The batch of a point. -/
abbrev bat (t : Fin cfg0.N) : Fin 4 := ⟨t.val / 32, by have := t.isLt; have h : cfg0.N = 128 := rfl; omega⟩

/-- The position in the sequence of a row of a point's block. -/
abbrev pos (t : Fin cfg0.N) (r : Fin 256) : Fin 8192 := ⟨t.val % 32 * 256 + r.val, by omega⟩

/-- The convolution's taps as a function of any number: zeros after the last. -/
def tapw (c : Dev nD) (l : Fin 512) (j : ℕ) : EReal :=
  if h : j < 31 then m ((c : Thread nD τ).loc main_arg1) (ix2 ⟨j, h⟩ l) else 0

/-- The block of inputs and gates, read at a row and a column. -/
theorem blk0 (c : Dev nD) (t : Fin cfg0.N) (r : Fin 256) (k : Fin 1024) : iblk m c 0 t (ix3 0 r k)
    = m ((c : Thread nD τ).loc main_arg0) (ix3 (bat t) (pos t r) k) := by
  blk_simp [iblk]; entry_read; pointwise; blk_ext [idx t]

/-- The taps are padded with one row of zeros before the call. -/
theorem padded (c : Dev nD) : V m c main_v0 = pad S32x512 ![0, 0] ![1, 0] ![0, 0] (m ((c : Thread nD τ).loc main_arg1))
    (sitofp (F := Ideal) .f32 (constantI S_ 32 0#32)) pads_S31x512_S32x512_010_000 h_S_ := by
  simp only [V, hostOps0, hostOps0_1, hostOps0_2, List.flatten_cons, List.flatten_nil, List.append_nil, List.cons_append, List.nil_append]; entry_read; rfl

/-- One row of zeros under 31 rows. -/
theorem pad_apply (X : FVec Ideal S31x512 .f32) (j : Fin 32) (l : Fin 512) : pad S32x512 ![0, 0] ![1, 0] ![0, 0] X
    (sitofp (F := Ideal) .f32 (constantI S_ 32 0#32)) pads_S31x512_S32x512_010_000 h_S_ (ix2 j l)
      = if h : j.val < 31 then X (ix2 ⟨j.val, h⟩ l) else 0 := by
  pointwise
  by_cases h : j.val < 31
  · rw [dif_pos h, dif_pos (by omega)]
  · rw [dif_neg h, dif_neg (by omega)]
    simp [FloatOps.sitofp]

/-- The padded taps, read at a row and a column. -/
theorem padded_apply (c : Dev nD) (j : Fin 32) (l : Fin 512) : V m c main_v0 (ix2 j l) = tapw m c l j.val := by
  rw [padded, tapw]
  exact pad_apply _ j l

/-- The taps. -/
theorem blk1 (c : Dev nD) (t : Fin cfg0.N) (j : Fin 32) (l : Fin 512) : iblk m c 1 t (ix2 j l) = tapw m c l j.val := by
  rw [← padded_apply]
  blk_ext [iblk, idx t]

/-- The bias. -/
theorem blk2 (c : Dev nD) (t : Fin cfg0.N) (l : Fin 512) : iblk m c 2 t (ix2 0 l)
    = m ((c : Thread nD τ).loc main_arg2) (ix1 l) := by
  blk_simp [iblk]; simp only [V, hostOps0, hostOps0_1, hostOps0_2, List.flatten_cons, List.flatten_nil, List.append_nil, List.cons_append, List.nil_append]; entry_read; pointwise; blk_ext [idx t]

/-- The normalisation's gain. -/
theorem blk3 (c : Dev nD) (t : Fin cfg0.N) (l : Fin 512) : iblk m c 3 t (ix2 0 l)
    = m ((c : Thread nD τ).loc main_arg3) (ix1 l) := by
  blk_simp [iblk]; simp only [V, hostOps0, hostOps0_1, hostOps0_2, List.flatten_cons, List.flatten_nil, List.append_nil, List.cons_append, List.nil_append]; entry_read; pointwise; blk_ext [idx t]

/-- The normalisation's offset. -/
theorem blk4 (c : Dev nD) (t : Fin cfg0.N) (l : Fin 512) : iblk m c 4 t (ix2 0 l)
    = m ((c : Thread nD τ).loc main_arg4) (ix1 l) := by
  blk_simp [iblk]; simp only [V, hostOps0, hostOps0_1, hostOps0_2, List.flatten_cons, List.flatten_nil, List.append_nil, List.cons_append, List.nil_append]; entry_read; pointwise; blk_ext [idx t]

/-- The mean of a row. -/
def mean (p : Fin 512 → EReal) : EReal := Ideal.div (∑ k, p k) (Ideal.ofBits .f32 0x44000000#32)

/-- A row less its mean, over its standard deviation, times a gain, plus an offset. -/
def norm (p : Fin 512 → EReal) (g b : EReal) (l : Fin 512) : EReal :=
  (p l - mean p) * Ideal.rsqrt (mean (fun k => (p k - mean p) * (p k - mean p)) + Ideal.ofBits .f32 0x3727C5AC#32) * g + b

/-- `a` times its logistic function. -/
def silu (a : EReal) : EReal := a * Ideal.div 1 (1 + Ideal.exp (0 - a))

/-- A row before its normalisation: the last even tap and the odd taps are added to the other even taps. -/
def pre (a : FVec Ideal S256x512 .f32) (o : FVec Ideal S264x512 .f32) (w : FVec Ideal S1x512 .f32) (x : FVec Ideal S256x512 .f32)
    (r : Fin 256) (l : Fin 512) : EReal :=
  a (ix2 r l) + w (ix2 0 l) * x (ix2 r l) + o (ix2 ⟨1 + r.val, by omega⟩ l)

/-- The normalised row. -/
theorem pay29 (a : FVec Ideal S256x512 .f32) (o : FVec Ideal S264x512 .f32) (w g b : FVec Ideal S1x512 .f32) (x : FVec Ideal S256x512 .f32)
    (r : Fin 256) (l : Fin 512) : k0_pay29 a o w x g b (ix2 r l) = norm (pre a o w x r) (g (ix2 0 l)) (b (ix2 0 l)) l := by
  pointwise [k0_pay29, norm, mean, pre]

/-- What a point stores, from the row before its normalisation. -/
theorem pay1 (a : FVec Ideal S256x512 .f32) (o : FVec Ideal S264x512 .f32) (w g b : FVec Ideal S1x512 .f32) (x : FVec Ideal S256x512 .f32)
    (z : FVec Ideal S1x256x512 .f32) (r : Fin 256) (l : Fin 512) :
    k0_pay1 (k0_pay29 a o w x g b) (k0_pay30 a o w x g b) z (ix3 0 r l)
      = silu (norm (pre a o w x r) (g (ix2 0 l)) (b (ix2 0 l)) l) * z (ix3 0 r l) := by
  pointwise [k0_pay1, k0_pay30, pay29, silu]

/-- The extended block with its shifted copies: copy `k` at row `r` is the extended block at row `r + 2 (k + 1)`. -/
theorem stack (X : FVec Ideal S296x512 .f32) (k : Fin 3) (r : Fin 288) (l : Fin 512) :
    View.canon (Val := Elt Ideal) (s := S3x288x512) (e := .f32)
      [⟨Rect.unit ![2, 0, 0] ![1, 288, 512] inb_S3x288x512_S1x288x512_2_0_0,
          k0_pay7 (F := Ideal) (View.ld (Val := Elt Ideal) (e' := .f32) X (Rect.unit ![6, 0] ![288, 512] inb_S296x512_S288x512_6_0))⟩,
        ⟨Rect.unit ![1, 0, 0] ![1, 288, 512] inb_S3x288x512_S1x288x512_1_0_0,
          k0_pay6 (F := Ideal) (View.ld (Val := Elt Ideal) (e' := .f32) X (Rect.unit ![4, 0] ![288, 512] inb_S296x512_S288x512_4_0))⟩,
        ⟨Rect.unit ![0, 0, 0] ![1, 288, 512] inb_S3x288x512_S1x288x512_0_0_0,
          k0_pay5 (F := Ideal) (View.ld (Val := Elt Ideal) (e' := .f32) X (Rect.unit ![2, 0] ![288, 512] inb_S296x512_S288x512_2_0))⟩] (ix3 k r l)
      = X (ix2 ⟨2 * (k.val + 1) + r.val, by omega⟩ l) := by
  canon_tiles x h
  all_goals idx_vars x
  all_goals obtain rfl : r = x1 := Fin.ext h1
  all_goals obtain rfl : l = x2 := Fin.ext h2
  all_goals pointwise [k0_pay5, k0_pay6, k0_pay7]
  all_goals congr 1; idx_ext

/-- The extended block in the first point of a sequence: zeros, then the block. -/
theorem extA (u : FVec Ideal S1x256x512 .f32) (r : Fin 296) (l : Fin 512) :
    View.canon (Val := Elt Ideal) (s := S296x512) (e := .f32)
      [⟨Rect.unit ![32, 0] ![256, 512] inb_S296x512_S256x512_32_0, k0_pay4 (F := Ideal) u⟩,
        ⟨Rect.unit ![288, 0] ![8, 512] inb_S296x512_S8x512_288_0, k0_pay3 (F := Ideal)⟩,
        ⟨Rect.unit ![0, 0] ![32, 512] inb_S296x512_S32x512_0_0, k0_pay2 (F := Ideal)⟩] (ix2 r l)
      = if h : 32 ≤ r.val ∧ r.val < 288 then u (ix3 0 ⟨r.val - 32, by omega⟩ l) else 0 := by
  canon_tiles x h using View.cover_of_tiledBy _ ![8, 512] (by sl_kernel_rfl) _
  all_goals idx_vars x
  all_goals obtain rfl : l = x1 := Fin.ext h1
  · obtain rfl : r = ⟨32 + x0.val, lt_trans (Nat.add_lt_add_left x0.isLt 32) (by decide)⟩ := Fin.ext h0
    rw [dif_pos ⟨by simp, by simp only; omega⟩]
    pointwise [k0_pay4]
  · obtain rfl : r = ⟨288 + x0.val, Nat.add_lt_add_left x0.isLt 288⟩ := Fin.ext h0
    rw [dif_neg (by simp)]
    pointwise [k0_pay3]
  · obtain rfl : r = ⟨x0.val, lt_trans x0.isLt (by decide)⟩ := Fin.ext h0
    rw [dif_neg (by simp only; omega)]
    pointwise [k0_pay2]

/-- The extended block in a later point of a sequence: what the scratch held, then the block. -/
theorem extB (Y : FVec Ideal S296x512 .f32) (hw : (Memref.whole cc0_scratch0).IsWhole) (u : FVec Ideal S1x256x512 .f32) (r : Fin 296) (l : Fin 512) :
    View.read (Elt Ideal) (View.whole cc0_scratch0) ((View.whole cc0_scratch0).writes (Elt Ideal) (hw.unread Y)
      [⟨Rect.unit ![32, 0] ![256, 512] inb_S296x512_S256x512_32_0, k0_pay4 (F := Ideal) u⟩]) (ix2 r l)
      = if h : 32 ≤ r.val ∧ r.val < 288 then u (ix3 0 ⟨r.val - 32, by omega⟩ l) else Y (ix2 r l) := by
  by_cases h : 32 ≤ r.val ∧ r.val < 288
  · rw [dif_pos h, show (ix2 r l : S296x512.Idx) = (Rect.unit ![32, 0] ![256, 512] inb_S296x512_S256x512_32_0).emb
        (ix2 ⟨r.val - 32, by omega⟩ l) from by idx_ext; all_goals omega, View.read_writes_cons_emb]
    pointwise [k0_pay4]
  · rw [dif_neg h, View.read_writes_cons_miss_of_axis _ _ _ _ _ (0 : Fin 2) 32 256 rfl rfl rfl (by show r.val < 32 ∨ 32 + 256 ≤ r.val; omega)]
    exact congrFun (read_unread_whole (Val := Elt Ideal) cc0_scratch0 hw Y) _

/-- The extended block's last 32 rows are the last rows of the block stored in it. -/
theorem last_rows (w : FVec Ideal S256x512 .f32) (L : List (View.Piece (Elt Ideal) S296x512 .f32)) (r : Fin 32) (l : Fin 512) :
    (View.whole cc0_scratch0).readCov (Val := Elt Ideal) (⟨Rect.unit ![32, 0] ![256, 512] inb_S296x512_S256x512_32_0, w⟩ :: L)
      (Rect.unit (s := S296x512) ![256, 0] ![32, 512] inb_S296x512_S32x512_256_0).toLoadRect (ix2 r l) = w (ix2 ⟨224 + r.val, by omega⟩ l) := by
  rw [View.readCov_eq_canon']
  show View.canon _ ((Rect.unit (s := S296x512) ![256, 0] ![32, 512] inb_S296x512_S32x512_256_0).emb (ix2 r l)) = _
  rw [show (Rect.unit (s := S296x512) ![256, 0] ![32, 512] inb_S296x512_S32x512_256_0).emb (ix2 r l)
    = (Rect.unit ![32, 0] ![256, 512] inb_S296x512_S256x512_32_0).emb (ix2 ⟨224 + r.val, by omega⟩ l) from by idx_ext; all_goals omega, View.canon_cons_emb]

/-- What a point hands to the next in the scratch's first 32 rows: the last 32 rows of its block. -/
theorem carry (c : Dev nD) (t : Fin cfg0.N) (r : Fin 32) (l : Fin 512) :
    (outsAt0 m c t.val t.isLt).2 (ix2 ⟨r.val, by omega⟩ l) = iblk m c 0 t (ix3 0 ⟨224 + r.val, by omega⟩ ⟨l.val, by omega⟩) := by
  by_cases h : t.val % 32 = 0
  · rw [outsAt0_A m c t h]; frame_out
    rw [show (ix2 ⟨r.val, by omega⟩ l : S296x512.Idx) = (Rect.unit ![0, 0] ![32, 512] inb_S296x512_S32x512_0_0).emb (ix2 r l) from by idx_ext, View.canon_cons_emb]
    pointwise [k0_pay28]
    rw [last_rows]
    pointwise [k0_pay4]
  · rw [outsAt0_B m c t h]; frame_out
    rw [show (ix2 ⟨r.val, by omega⟩ l : S296x512.Idx) = (Rect.unit ![0, 0] ![32, 512] inb_S296x512_S32x512_0_0).emb (ix2 r l) from by idx_ext, View.read_writes_cons_emb]
    pointwise [k0_pay28]
    rw [last_rows]
    pointwise [k0_pay4]

/-- A sequence's inputs behind 30 rows of zeros, at any row number. -/
def padu (c : Dev nD) (b : Fin 4) (l : Fin 512) (n : ℕ) : EReal :=
  if h : 30 ≤ n ∧ n < 8222 then m ((c : Thread nD τ).loc main_arg0) (ix3 b ⟨n - 30, by omega⟩ ⟨l.val, by omega⟩) else 0

/-- An extended block at any row number. -/
def tot (X : FVec Ideal S296x512 .f32) (l : Fin 512) (n : ℕ) : EReal :=
  if h : n < 296 then X (ix2 ⟨n, h⟩ l) else 0

/-- `n` rows of an extended block from row `o`. -/
def rows (n : ℕ) (X : FVec Ideal S296x512 .f32) (o : ℕ) : (⟨2, ![n, 512]⟩ : Shape).Idx → EReal :=
  fun y => tot X ⟨(y 1).val, (y 1).isLt⟩ (o + (y 0).val)

/-- Rows of an extended block, read at a row and a column. -/
theorem rows_apply (n : ℕ) (X : FVec Ideal S296x512 .f32) (o : ℕ) (a : Fin n) (l : Fin 512) : rows n X o (ix2 a l) = tot X l (o + a.val) := rfl

/-- A load of whole rows of the extended block. -/
theorem ld_rows (n : ℕ) (X : FVec Ideal S296x512 .f32) (o : ℕ) (inb : ∀ a, (![o, 0] : Fin 2 → ℕ) a + (![n, 512] : Fin 2 → ℕ) a ≤ S296x512.size a) :
    View.ld (Val := Elt Ideal) (e' := .f32) X (Rect.unit ![o, 0] ![n, 512] inb) = rows n X o := by
  funext y
  have h0 : o + n ≤ 296 := inb 0
  have h1 : (y 0).val < n := (y 0).isLt
  rw [rows, tot, dif_pos (by omega), View.ld_apply]
  congr 1
  funext a
  apply Fin.ext
  fin_cases a
  · show o + 1 * (y 0).val = o + (y 0).val; omega
  · show 0 + 1 * (y 1).val = (y 1).val; omega

/-- A covered load through a rectangle is the load of the pieces' contents there. -/
theorem readCov_ld (L : List (View.Piece (Elt Ideal) S296x512 .f32)) (r : Rect S296x512) :
    (View.whole cc0_scratch0).readCov L r.toLoadRect = View.ld (View.canon L) r := by
  rw [View.readCov_eq_canon']; rfl

/-- A load of whole rows of a shifted copy: the extended block's rows, so many further down. -/
theorem ld_copy (n : ℕ) (X : FVec Ideal S296x512 .f32) (k o : ℕ)
    (inbK : ∀ a, (![k, 0, 0] : Fin 3 → ℕ) a + (![1, 288, 512] : Fin 3 → ℕ) a ≤ S3x288x512.size a)
    (inb : ∀ a, (![o, 0] : Fin 2 → ℕ) a + (![n, 512] : Fin 2 → ℕ) a ≤ S288x512.size a)
    (h0 : (![1, 288, 512] : Fin 3 → ℕ) 0 = 1) (hs : ∀ i : Fin 2, (![1, 288, 512] : Fin 3 → ℕ) i.succ = S288x512.size i)
    (hp : ∀ a, (Rect.unit (s := S3x288x512) ![k, 0, 0] ![1, 288, 512] inbK).stride a = 1)
    (hR : (Rect.unit (s := S288x512) ![o, 0] ![n, 512] inb).toLoadRect.shape.numel = ((Rect.unit (s := S3x288x512) ![k, 0, 0] ![1, 288, 512] inbK).withinL
          ((Rect.unit (s := S288x512) ![o, 0] ![n, 512] inb).toLoadRect.consLift ![1, 288, 512] h0 hs) hp).shape.numel) :
    LoadRect.valAlong hR ((View.whole cc0_scratch1).readCov (Val := Elt Ideal)
        [⟨Rect.unit ![2, 0, 0] ![1, 288, 512] inb_S3x288x512_S1x288x512_2_0_0,
            k0_pay7 (F := Ideal) (View.ld (Val := Elt Ideal) (e' := .f32) X (Rect.unit ![6, 0] ![288, 512] inb_S296x512_S288x512_6_0))⟩,
          ⟨Rect.unit ![1, 0, 0] ![1, 288, 512] inb_S3x288x512_S1x288x512_1_0_0,
            k0_pay6 (F := Ideal) (View.ld (Val := Elt Ideal) (e' := .f32) X (Rect.unit ![4, 0] ![288, 512] inb_S296x512_S288x512_4_0))⟩,
          ⟨Rect.unit ![0, 0, 0] ![1, 288, 512] inb_S3x288x512_S1x288x512_0_0_0,
            k0_pay5 (F := Ideal) (View.ld (Val := Elt Ideal) (e' := .f32) X (Rect.unit ![2, 0] ![288, 512] inb_S296x512_S288x512_2_0))⟩]
        ((Rect.unit (s := S3x288x512) ![k, 0, 0] ![1, 288, 512] inbK).withinL
          ((Rect.unit (s := S288x512) ![o, 0] ![n, 512] inb).toLoadRect.consLift ![1, 288, 512] h0 hs) hp))
      = rows n X (2 * (k + 1) + o) := by
  funext y
  have hk : k + 1 ≤ 3 := inbK 0
  have ho : o + n ≤ 288 := inb 0
  have h1 : (y 0).val < n := (y 0).isLt
  have e : Shape.reshapeEquiv hR y = Fin.cons ⟨0, Nat.one_pos⟩ y := Shape.reshapeEquiv_cons_one (d := (![n, 512] : Fin 2 → ℕ)) _ _
  rw [View.readCov_eq_canon', rows, tot, dif_pos (by omega)]
  refine Eq.trans ?_ ((stack X ⟨k, by omega⟩ ⟨o + (y 0).val, by omega⟩ ⟨(y 1).val, (y 1).isLt⟩).trans ?_)
  · show View.canon _ (LoadRect.idx _ (Shape.reshapeEquiv hR y)) = _
    rw [e]
    congr 1
    funext a
    apply Fin.ext
    fin_cases a
    · show k + 0 + 1 * 0 = k; omega
    · show 0 + o + 1 * (y 0).val = o + (y 0).val; omega
    · show 0 + 0 + 1 * (y 1).val = (y 1).val; omega
  · congr 2
    exact Fin.ext (by show 2 * (k + 1) + (o + (y 0).val) = 2 * (k + 1) + o + (y 0).val; omega)

/-- A tap's row of weights. -/
theorem tap_row (c : Dev nD) (t : Fin cfg0.N) (j : ℕ) (inb : ∀ a, (![j, 0] : Fin 2 → ℕ) a + (![1, 512] : Fin 2 → ℕ) a ≤ S32x512.size a) (l : Fin 512) :
    View.ld (Val := Elt Ideal) (e' := .f32) (iblk m c 1 t) (Rect.unit ![j, 0] ![1, 512] inb) (ix2 0 l) = tapw m c l j := by
  have hj : j + 1 ≤ 32 := inb 0
  refine Eq.trans ?_ (blk1 m c t ⟨j, by omega⟩ l)
  rw [View.ld_apply]
  congr 1
  funext a
  apply Fin.ext
  fin_cases a
  · show j + 1 * 0 = j; omega
  · show 0 + 1 * l.val = l.val; omega

/-- The convolution's bias. -/
def bias (c : Dev nD) (l : Fin 512) : EReal := m ((c : Thread nD τ).loc main_arg2) (ix1 l)

/-- The normalisation's gain. -/
def gain (c : Dev nD) (l : Fin 512) : EReal := m ((c : Thread nD τ).loc main_arg3) (ix1 l)

/-- The normalisation's offset. -/
def offset (c : Dev nD) (l : Fin 512) : EReal := m ((c : Thread nD τ).loc main_arg4) (ix1 l)

/-- A point's block, read at a row and a column. -/
def inp (c : Dev nD) (t : Fin cfg0.N) (r : Fin 256) (k : Fin 1024) : EReal := m ((c : Thread nD τ).loc main_arg0) (ix3 (bat t) (pos t r) k)

/-- The convolution at a row and a column of a point's block: the bias and 31 taps. -/
def conv (c : Dev nD) (t : Fin cfg0.N) (X : FVec Ideal S296x512 .f32) (r : Fin 256) (l : Fin 512) : EReal :=
  bias m c l + ∑ j ∈ Finset.range 31, tapw m c l j * tot X l (2 + j + r.val)

/-- A tap's row of weights, as a point loads it. -/
abbrev wrow (c : Dev nD) (t : Fin cfg0.N) (j : ℕ) (inb : ∀ a, (![j, 0] : Fin 2 → ℕ) a + (![1, 512] : Fin 2 → ℕ) a ≤ S32x512.size a) :=
  View.ld (Val := Elt Ideal) (e' := .f32) (iblk m c 1 t) (Rect.unit ![j, 0] ![1, 512] inb)

/-- The 31 products a point adds up, over loads that hold the extended block's rows. The odd taps' loads begin a row early. -/
theorem conv_taps (c : Dev nD) (t : Fin cfg0.N) (X : FVec Ideal S296x512 .f32)
    {e0 e2 e4 e6 e8 e10 e12 e14 e16 e18 e20 e22 e24 e26 e28 e30 : FVec Ideal S256x512 .f32}
    {e1 e3 e5 e7 e9 e11 e13 e15 e17 e19 e21 e23 e25 e27 e29 : FVec Ideal S264x512 .f32}
    (h0 : e0 = rows 256 X 2) (h1 : e1 = rows 264 X 2) (h2 : e2 = rows 256 X 4) (h3 : e3 = rows 264 X 4) (h4 : e4 = rows 256 X 6)
    (h5 : e5 = rows 264 X 6) (h6 : e6 = rows 256 X 8) (h7 : e7 = rows 264 X 8) (h8 : e8 = rows 256 X 10) (h9 : e9 = rows 264 X 10)
    (h10 : e10 = rows 256 X 12) (h11 : e11 = rows 264 X 12) (h12 : e12 = rows 256 X 14) (h13 : e13 = rows 264 X 14) (h14 : e14 = rows 256 X 16)
    (h15 : e15 = rows 264 X 16) (h16 : e16 = rows 256 X 18) (h17 : e17 = rows 264 X 18) (h18 : e18 = rows 256 X 20) (h19 : e19 = rows 264 X 20)
    (h20 : e20 = rows 256 X 22) (h21 : e21 = rows 264 X 22) (h22 : e22 = rows 256 X 24) (h23 : e23 = rows 264 X 24) (h24 : e24 = rows 256 X 26)
    (h25 : e25 = rows 264 X 26) (h26 : e26 = rows 256 X 28) (h27 : e27 = rows 264 X 28) (h28 : e28 = rows 256 X 30) (h29 : e29 = rows 264 X 30)
    (h30 : e30 = rows 256 X 32) (r : Fin 256) (l : Fin 512) :
      pre (k0_pay26 (k0_pay24 (k0_pay22 (k0_pay19 (k0_pay15 (k0_pay12 (k0_pay10 (k0_pay8 (iblk m c 2 t)) (wrow m c t 0 inb_S32x512_S1x512_0_0) e0 (wrow
      m c t 2 inb_S32x512_S1x512_2_0) e2) (wrow m c t 4 inb_S32x512_S1x512_4_0) e4 (wrow m c t 6 inb_S32x512_S1x512_6_0) e6) (k0_pay14 (wrow m c t 8
      inb_S32x512_S1x512_8_0)) e8 (wrow m c t 10 inb_S32x512_S1x512_10_0) e10) (k0_pay17 (wrow m c t 12 inb_S32x512_S1x512_12_0)) e12 (wrow m c t 14
      inb_S32x512_S1x512_14_0) e14 (wrow m c t 16 inb_S32x512_S1x512_16_0) e16) (wrow m c t 18 inb_S32x512_S1x512_18_0) e18 (wrow m c t 20
      inb_S32x512_S1x512_20_0) e20) (wrow m c t 22 inb_S32x512_S1x512_22_0) e22 (wrow m c t 24 inb_S32x512_S1x512_24_0) e24) (wrow m c t 26
      inb_S32x512_S1x512_26_0) e26 (wrow m c t 28 inb_S32x512_S1x512_28_0) e28) (k0_pay27 (k0_pay25 (k0_pay21 (k0_pay18 (k0_pay16 (k0_pay13 (k0_pay11
      k0_pay9 (wrow m c t 1 inb_S32x512_S1x512_1_0) e1 (wrow m c t 3 inb_S32x512_S1x512_3_0) e3) (wrow m c t 5 inb_S32x512_S1x512_5_0) e5 (wrow m c t 7
      inb_S32x512_S1x512_7_0) e7) (wrow m c t 9 inb_S32x512_S1x512_9_0) e9 (wrow m c t 11 inb_S32x512_S1x512_11_0) e11) (wrow m c t 13
      inb_S32x512_S1x512_13_0) e13 (wrow m c t 15 inb_S32x512_S1x512_15_0) e15) (k0_pay20 (wrow m c t 17 inb_S32x512_S1x512_17_0)) e17 (wrow m c t 19
      inb_S32x512_S1x512_19_0) e19) (k0_pay23 (wrow m c t 21 inb_S32x512_S1x512_21_0)) e21 (wrow m c t 23 inb_S32x512_S1x512_23_0) e23 (wrow m c t 25
      inb_S32x512_S1x512_25_0) e25) (wrow m c t 27 inb_S32x512_S1x512_27_0) e27 (wrow m c t 29 inb_S32x512_S1x512_29_0) e29) (wrow m c t 30
      inb_S32x512_S1x512_30_0) e30 r l = conv m c t X r l := by
  subst h0 h1 h2 h3 h4 h5 h6 h7 h8 h9 h10 h11 h12 h13 h14 h15 h16 h17 h18 h19 h20 h21 h22 h23 h24 h25 h26 h27 h28 h29 h30
  pointwise [pre, conv, k0_pay8, k0_pay9, k0_pay10, k0_pay11, k0_pay12, k0_pay13, k0_pay14, k0_pay15, k0_pay16, k0_pay17, k0_pay18, k0_pay19,
    k0_pay20, k0_pay21, k0_pay22, k0_pay23, k0_pay24, k0_pay25, k0_pay26, k0_pay27]
  simp only [wrow, tap_row, rows_apply, blk2, ← Nat.add_assoc, Finset.sum_range_succ, Finset.sum_range_zero, Nat.reduceAdd, zero_add, bias]
  ac_rfl

/-- The normalisation of equal rows. -/
theorem norm_congr {p q : Fin 512 → EReal} {g g' b b' : EReal} (hp : ∀ l, p l = q l) (hg : g = g') (hb : b = b') (l : Fin 512) :
    norm p g b l = norm q g' b' l := by
  rw [funext hp, hg, hb]

/-- A load of half the columns of a point's block. -/
theorem inp_ld (c : Dev nD) (t : Fin cfg0.N) (o : ℕ) (inb : ∀ a, (![0, 0, o] : Fin 3 → ℕ) a + (![1, 256, 512] : Fin 3 → ℕ) a ≤ S1x256x1024.size a)
    (r : Fin 256) (l : Fin 512) :
    View.ld (Val := Elt Ideal) (e' := .f32) (iblk m c 0 t) (Rect.unit ![0, 0, o] ![1, 256, 512] inb) (ix3 0 r l)
      = inp m c t r ⟨o + l.val, by have h : o + 512 ≤ 1024 := inb 2; omega⟩ := by
  have h : o + 512 ≤ 1024 := inb 2
  refine Eq.trans ?_ (blk0 m c t r ⟨o + l.val, by omega⟩)
  rw [View.ld_apply]
  congr 1
  idx_ext

/-- A load of the rows just stored is what was stored. -/
theorem ld_block (p : FVec Ideal S256x512 .f32) :
    (View.whole cc0_scratch0).readCov (Val := Elt Ideal) [⟨Rect.unit ![32, 0] ![256, 512] inb_S296x512_S256x512_32_0, p⟩]
      (Rect.unit ![32, 0] ![256, 512] inb_S296x512_S256x512_32_0).toLoadRect = p := by
  rw [View.readCov_eq_canon']
  funext y
  exact View.canon_cons_emb _ _ _ y

/-- What a point stores, over the extended block `X` it has built. -/
theorem stored (c : Dev nD) (t : Fin cfg0.N) (r : Fin 256) (l : Fin 512) : ∃ X : FVec Ideal S296x512 .f32,
    (∀ (r : Fin 296) (l : Fin 512), X (ix2 r l) = if h : 32 ≤ r.val ∧ r.val < 288 then inp m c t ⟨r.val - 32, by omega⟩ ⟨l.val, by omega⟩
      else if h : t.val % 32 = 0 then 0 else
        (outsAt0 m c (t.val - 1) (Nat.lt_of_le_of_lt (Nat.sub_le _ _) t.isLt)).2 (ix2 r l))
    ∧ (outsAt0 m c t.val t.isLt).1 (ix3 0 r l)
      = silu (norm (conv m c t X r) (gain m c l) (offset m c l) l)
        * inp m c t r ⟨512 + l.val, by omega⟩ := by
  by_cases h : t.val % 32 = 0
  on_goal 1 =>
    rw [outsAt0_A m c t h]; frame_out
    rw [pay1]
    simp only [readCov_ld]
    have hx := extA (View.ld (Val := Elt Ideal) (e' := .f32) (iblk m c 0 t) (Rect.unit ![0, 0, 0] ![1, 256, 512] inb_S1x256x1024_S1x256x512_0_0_0))
    generalize View.canon (Val := Elt Ideal) (s := S296x512) (e := .f32)
      [⟨Rect.unit ![32, 0] ![256, 512] inb_S296x512_S256x512_32_0, k0_pay4 (F := Ideal)
          (View.ld (Val := Elt Ideal) (e' := .f32) (iblk m c 0 t) (Rect.unit ![0, 0, 0] ![1, 256, 512] inb_S1x256x1024_S1x256x512_0_0_0))⟩,
        ⟨Rect.unit ![288, 0] ![8, 512] inb_S296x512_S8x512_288_0, k0_pay3 (F := Ideal)⟩,
        ⟨Rect.unit ![0, 0] ![32, 512] inb_S296x512_S32x512_0_0, k0_pay2 (F := Ideal)⟩] = X at hx ⊢
    simp only [inp_ld, Nat.zero_add] at hx
    have e30 := ld_rows 256 X 32 inb_S296x512_S256x512_32_0
  on_goal 2 =>
    rw [outsAt0_B m c t h]; frame_out
    rw [pay1]
    have hx := extB (outsAt0 m c (t.val - 1) (Nat.lt_of_le_of_lt (Nat.sub_le _ _) t.isLt)).2 (Memref.isWhole_whole cc0_scratch0) (View.ld (Val := Elt Ideal) (e' := .f32) (iblk m c 0 t) (Rect.unit ![0, 0, 0] ![1, 256, 512] inb_S1x256x1024_S1x256x512_0_0_0))
    generalize View.read (Elt Ideal) (View.whole cc0_scratch0) ((View.whole cc0_scratch0).writes (Elt Ideal)
      ((Memref.isWhole_whole cc0_scratch0).unread (outsAt0 m c (t.val - 1) (Nat.lt_of_le_of_lt (Nat.sub_le _ _) t.isLt)).2)
      [⟨Rect.unit ![32, 0] ![256, 512] inb_S296x512_S256x512_32_0, k0_pay4 (F := Ideal)
          (View.ld (Val := Elt Ideal) (e' := .f32) (iblk m c 0 t) (Rect.unit ![0, 0, 0] ![1, 256, 512] inb_S1x256x1024_S1x256x512_0_0_0))⟩]) = X at hx ⊢
    simp only [inp_ld, Nat.zero_add] at hx
    have e30 : (View.whole cc0_scratch0).readCov (Val := Elt Ideal) [⟨Rect.unit ![32, 0] ![256, 512] inb_S296x512_S256x512_32_0, k0_pay4 (F := Ideal)
        (View.ld (Val := Elt Ideal) (e' := .f32) (iblk m c 0 t) (Rect.unit ![0, 0, 0] ![1, 256, 512] inb_S1x256x1024_S1x256x512_0_0_0))⟩]
        (Rect.unit ![32, 0] ![256, 512] inb_S296x512_S256x512_32_0).toLoadRect = rows 256 X 32 := by
      refine (ld_block _).trans (funext fun y => ?_)
      idx_vars y
      rw [rows_apply, tot, dif_pos (by omega), hx, dif_pos ⟨by simp only; omega, by simp only; omega⟩]
      pointwise [k0_pay4]
      exact blk0 m c t y0 _
  all_goals
    refine ⟨X, fun r l => by rw [hx]; simp only [h, ↓reduceDIte], congrArg₂ (fun a b => silu a * b) (norm_congr (fun l => conv_taps m c t X
        (ld_copy 256 X 0 0 _ _ _ _ _ _) (ld_copy 264 X 0 0 _ _ _ _ _ _) (ld_copy 256 X 1 0 _ _ _ _ _ _) (ld_copy 264 X 1 0 _ _ _ _ _ _)
        (ld_copy 256 X 2 0 _ _ _ _ _ _) (ld_copy 264 X 2 0 _ _ _ _ _ _) (ld_rows 256 X 8 _) (ld_rows 264 X 8 _)
        (ld_copy 256 X 0 8 _ _ _ _ _ _) (ld_copy 264 X 0 8 _ _ _ _ _ _) (ld_copy 256 X 1 8 _ _ _ _ _ _) (ld_copy 264 X 1 8 _ _ _ _ _ _)
        (ld_copy 256 X 2 8 _ _ _ _ _ _) (ld_copy 264 X 2 8 _ _ _ _ _ _) (ld_rows 256 X 16 _) (ld_rows 264 X 16 _)
        (ld_copy 256 X 0 16 _ _ _ _ _ _) (ld_copy 264 X 0 16 _ _ _ _ _ _) (ld_copy 256 X 1 16 _ _ _ _ _ _) (ld_copy 264 X 1 16 _ _ _ _ _ _)
        (ld_copy 256 X 2 16 _ _ _ _ _ _) (ld_copy 264 X 2 16 _ _ _ _ _ _) (ld_rows 256 X 24 _) (ld_rows 264 X 24 _)
        (ld_copy 256 X 0 24 _ _ _ _ _ _) (ld_copy 264 X 0 24 _ _ _ _ _ _) (ld_copy 256 X 1 24 _ _ _ _ _ _) (ld_copy 264 X 1 24 _ _ _ _ _ _)
        (ld_copy 256 X 2 24 _ _ _ _ _ _) (ld_copy 264 X 2 24 _ _ _ _ _ _) e30 r l)
        (blk3 m c t l) (blk4 m c t l) l) (inp_ld m c t 512 _ r l)⟩
/-- The extended block's rows from the third on are the sequence's, behind 30 rows of zeros. -/
theorem joined (c : Dev nD) (t : Fin cfg0.N) (X : FVec Ideal S296x512 .f32)
    (hx : ∀ (r : Fin 296) (l : Fin 512), X (ix2 r l) = if h : 32 ≤ r.val ∧ r.val < 288 then inp m c t ⟨r.val - 32, by omega⟩ ⟨l.val, by omega⟩
      else if h : t.val % 32 = 0 then 0 else
        (outsAt0 m c (t.val - 1) (Nat.lt_of_le_of_lt (Nat.sub_le _ _) t.isLt)).2 (ix2 r l))
    (l : Fin 512) (r : ℕ) (h2 : 2 ≤ r) (h3 : r < 288) : tot X l r = padu m c (bat t) l (t.val % 32 * 256 + r - 2) := by
  rw [tot, dif_pos (by omega), hx, padu]
  by_cases h : 32 ≤ r
  · simp only [dif_pos (And.intro h h3)]
    rw [dif_pos (by omega), inp]
    congr 1
    idx_ext
  · simp only [h, false_and, ↓reduceDIte]
    by_cases h0 : t.val % 32 = 0
    · simp only [h0, ↓reduceDIte]
      rw [dif_neg (by omega)]
    · simp only [h0, ↓reduceDIte]
      rw [dif_pos (by omega)]
      refine (carry m c ⟨t.val - 1, Nat.lt_of_le_of_lt (Nat.sub_le _ _) t.isLt⟩ ⟨r, by omega⟩ l).trans ((blk0 m c _ _ _).trans ?_)
      congr 1
      idx_ext
      all_goals omega

/-- The convolution at a position of a sequence: the bias and 31 taps. -/
def convAt (c : Dev nD) (b : Fin 4) (s : Fin 8192) (l : Fin 512) : EReal :=
  bias m c l + ∑ j ∈ Finset.range 31, tapw m c l j * padu m c b l (s.val + j)

/-- What a point stores. -/
theorem point (c : Dev nD) (t : Fin cfg0.N) (r : Fin 256) (l : Fin 512) : (outsAt0 m c t.val t.isLt).1 (ix3 0 r l)
    = silu (norm (convAt m c (bat t) (pos t r)) (gain m c l) (offset m c l) l) * inp m c t r ⟨512 + l.val, by omega⟩ := by
  obtain ⟨X, hx, h⟩ := stored m c t r l
  refine h.trans (congrArg₂ (fun a b => silu a * b) (norm_congr (fun l => ?_) rfl rfl l) rfl)
  rw [conv, convAt]
  refine congrArg _ (Finset.sum_congr rfl fun j hj => ?_)
  have hj := Finset.mem_range.mp hj
  rw [joined m c t X hx l _ (by omega) (by omega)]
  congr 2
  simp only [pos]
  omega

/-- The reference pads a sequence with 30 rows of zeros in front. -/
theorem ref_pad (c : Dev nD) (b : Fin 4) (n : Fin 8222) (l : Fin 512) :
    val_main_v2 (F := Ideal) (m ((c : Thread nD τ).loc main_arg0)) (ix3 b n l) = padu m c b l n.val := by
  rw [val_main_v2, padu]
  pointwise [val_main_v0, val_main_call0_v0, val_main_c]
  by_cases h : 30 ≤ n.val
  · simp only [h, n.isLt, true_and, and_self, ↓reduceDIte]
    rw [dif_pos (by omega)]
  · simp only [h, false_and, ↓reduceDIte]
    simp [FloatOps.sitofp]

/-- A tap's row of weights in the reference. -/
theorem ref_tap (c : Dev nD) (j : Fin 31) (l : Fin 512) : m ((c : Thread nD τ).loc main_arg1) (ix2 j l) = tapw m c l j.val := by
  rw [tapw, dif_pos j.isLt]

/-- The reference's convolution. -/
theorem ref_conv (c : Dev nD) (b : Fin 4) (s : Fin 8192) (l : Fin 512) :
    val_main_v221 (F := Ideal) (m ((c : Thread nD τ).loc main_arg0)) (m ((c : Thread nD τ).loc main_arg1)) (m ((c : Thread nD τ).loc main_arg2)) (ix3 b s l)
      = convAt m c b s l := by
  pointwise [val_main_v3, val_main_v4, val_main_v5, val_main_v6, val_main_v7, val_main_v8, val_main_v9, val_main_v10, val_main_v11, val_main_v12,
    val_main_v13, val_main_v14, val_main_v15, val_main_v16, val_main_v17, val_main_v18, val_main_v19, val_main_v20, val_main_v21, val_main_v22,
    val_main_v23, val_main_v24, val_main_v25, val_main_v26, val_main_v27, val_main_v28, val_main_v29, val_main_v30, val_main_v31, val_main_v32,
    val_main_v33, val_main_v34, val_main_v35, val_main_v36, val_main_v37, val_main_v38, val_main_v39, val_main_v40, val_main_v41, val_main_v42,
    val_main_v43, val_main_v44, val_main_v45, val_main_v46, val_main_v47, val_main_v48, val_main_v49, val_main_v50, val_main_v51, val_main_v52,
    val_main_v53, val_main_v54, val_main_v55, val_main_v56, val_main_v57, val_main_v58, val_main_v59, val_main_v60, val_main_v61, val_main_v62,
    val_main_v63, val_main_v64, val_main_v65, val_main_v66, val_main_v67, val_main_v68, val_main_v69, val_main_v70, val_main_v71, val_main_v72,
    val_main_v73, val_main_v74, val_main_v75, val_main_v76, val_main_v77, val_main_v78, val_main_v79, val_main_v80, val_main_v81, val_main_v82,
    val_main_v83, val_main_v84, val_main_v85, val_main_v86, val_main_v87, val_main_v88, val_main_v89, val_main_v90, val_main_v91, val_main_v92,
    val_main_v93, val_main_v94, val_main_v95, val_main_v96, val_main_v97, val_main_v98, val_main_v99, val_main_v100, val_main_v101, val_main_v102,
    val_main_v103, val_main_v104, val_main_v105, val_main_v106, val_main_v107, val_main_v108, val_main_v109, val_main_v110, val_main_v111,
    val_main_v112, val_main_v113, val_main_v114, val_main_v115, val_main_v116, val_main_v117, val_main_v118, val_main_v119, val_main_v120,
    val_main_v121, val_main_v122, val_main_v123, val_main_v124, val_main_v125, val_main_v126, val_main_v127, val_main_v128, val_main_v129,
    val_main_v130, val_main_v131, val_main_v132, val_main_v133, val_main_v134, val_main_v135, val_main_v136, val_main_v137, val_main_v138,
    val_main_v139, val_main_v140, val_main_v141, val_main_v142, val_main_v143, val_main_v144, val_main_v145, val_main_v146, val_main_v147,
    val_main_v148, val_main_v149, val_main_v150, val_main_v151, val_main_v152, val_main_v153, val_main_v154, val_main_v155, val_main_v156,
    val_main_v157, val_main_v158, val_main_v159, val_main_v160, val_main_v161, val_main_v162, val_main_v163, val_main_v164, val_main_v165,
    val_main_v166, val_main_v167, val_main_v168, val_main_v169, val_main_v170, val_main_v171, val_main_v172, val_main_v173, val_main_v174,
    val_main_v175, val_main_v176, val_main_v177, val_main_v178, val_main_v179, val_main_v180, val_main_v181, val_main_v182, val_main_v183,
    val_main_v184, val_main_v185, val_main_v186, val_main_v187, val_main_v188, val_main_v189, val_main_v190, val_main_v191, val_main_v192,
    val_main_v193, val_main_v194, val_main_v195, val_main_v196, val_main_v197, val_main_v198, val_main_v199, val_main_v200, val_main_v201,
    val_main_v202, val_main_v203, val_main_v204, val_main_v205, val_main_v206, val_main_v207, val_main_v208, val_main_v209, val_main_v210,
    val_main_v211, val_main_v212, val_main_v213, val_main_v214, val_main_v215, val_main_v216, val_main_v217, val_main_v218, val_main_v219,
    val_main_v220, val_main_v221]
  simp only [ref_pad, ref_tap, convAt, Finset.sum_range_succ, Finset.sum_range_zero, zero_add, bias, Fin.isValue, Fin.coe_ofNat_eq_mod, Nat.reduceMod,
    Nat.add_zero]
  ac_rfl

/-- The reference's result. -/
theorem ref (c : Dev nD) (b : Fin 4) (s : Fin 8192) (l : Fin 512) :
    val_main_v248 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix3 b s l)
      = silu (norm (convAt m c b s) (gain m c l) (offset m c l) l) * m ((c : Thread nD τ).loc main_arg0) (ix3 b s ⟨512 + l.val, by omega⟩) := by
  pointwise [val_main_v248, val_main_v247, val_main_v246, val_main_v1, val_main_call1_v5, val_main_call1_v4, val_main_call1_v3, val_main_call1_v2,
    val_main_call1_v1, val_main_call1_v0, val_main_call1_cst, val_main_call1_cst_0, val_main_v245, val_main_v244, val_main_v243, val_main_v242,
    val_main_v241, val_main_v240, val_main_v239, val_main_v238, val_main_v237, val_main_v236, val_main_v235, val_main_v234, val_main_v233,
    val_main_v232, val_main_v231, val_main_v230, val_main_v229, val_main_v228, val_main_v227, val_main_v226, val_main_v225, val_main_v224,
    val_main_v223, val_main_v222, val_main_cst, val_main_cst_0, val_main_cst_1, val_main_cst_2, val_main_cst_3, ref_conv, silu, norm, mean, gain, offset]
  rw [zero_sub]

/-- The result array after the run. -/
theorem final (c : Dev nD) : (dats m 0 c).arrAt 5 (cfgs 0).N
    = val_main_v248 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  idx_vars y
  blk_simp
  rw [after0_5]; frame_out
  obtain rfl := Subsingleton.elim (0 : Fin 1) y0
  refine (point m c t y1 y2).trans ((ref m c (bat t) (pos t y1) y2).symm.trans ?_)
  congr 1
  blk_ext [idx t]

end Cert.Proof.ConvTie

end
-- ==== Proof.OutValue.lean ====
/-
  The output projection: the kernel's result array is the reference's composed term of the same arguments.
-/
module

public import proofs.«01_k».proof.Proof.Gen.OutIdeal.Value
public import proofs.«01_k».proof.Proof.Gen.OutRefIdeal.Read
public import Idealize.ShloMosaic.Lib.Pipeline.ValueKit

@[expose] public section

set_option maxRecDepth 16384

noncomputable section

namespace Cert.Proof.OutTie

open Idealize.ShloMosaic Idealize.ShloMosaic.TcCoe Idealize.SL.Sem
open Cert.OutIdeal Cert.OutIdeal.Gen
open Cert.OutRefIdeal.Read

variable (m : (ℓ : Loc nD τ sig) → Buf (Elt Ideal) ℓ)

/-- Every window's block index at point `t`: the row blocks move with `t`, the weights and the gain stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

/-- A row number of the flat array, from a point and a row of its block. -/
abbrev row (t : Fin cfg0.N) (r : Fin 1024) : Fin 32768 := ⟨t.val * 1024 + r.val, by have := t.isLt; have h : cfg0.N = 32 := rfl; omega⟩

/-- The residual's block, read at a row and a column. -/
theorem blk0 (c : Dev nD) (t : Fin cfg0.N) (r k : Fin 1024) : iblk m c 0 t (ix2 r k)
    = m ((c : Thread nD τ).loc main_arg0) (ix3 ⟨(row t r).val / 8192, by omega⟩ ⟨(row t r).val % 8192, by omega⟩ k) := by
  blk_simp [iblk]; entry_read; pointwise; blk_ext [idx t]

/-- The first half's block, read at a row and a column. -/
theorem blk1 (c : Dev nD) (t : Fin cfg0.N) (r : Fin 1024) (k : Fin 512) : iblk m c 1 t (ix2 r k)
    = m ((c : Thread nD τ).loc main_arg1) (ix3 ⟨(row t r).val / 8192, by omega⟩ ⟨(row t r).val % 8192, by omega⟩ k) := by
  blk_simp [iblk]; entry_read; pointwise; blk_ext [idx t]

/-- The second half's block, read at a row and a column. -/
theorem blk2 (c : Dev nD) (t : Fin cfg0.N) (r : Fin 1024) (k : Fin 512) : iblk m c 2 t (ix2 r k)
    = m ((c : Thread nD τ).loc main_arg2) (ix3 ⟨(row t r).val / 8192, by omega⟩ ⟨(row t r).val % 8192, by omega⟩ k) := by
  blk_simp [iblk]; entry_read; pointwise; blk_ext [idx t]

/-- The first half of the weights. -/
theorem blk3 (c : Dev nD) (t : Fin cfg0.N) (k : Fin 512) (l : Fin 1024) : iblk m c 3 t (ix2 k l)
    = m ((c : Thread nD τ).loc main_arg3) (ix2 ⟨k.val, by omega⟩ l) := by
  blk_simp [iblk]; entry_read; pointwise; blk_ext [idx t]

/-- The second half of the weights. -/
theorem blk4 (c : Dev nD) (t : Fin cfg0.N) (k : Fin 512) (l : Fin 1024) : iblk m c 4 t (ix2 k l)
    = m ((c : Thread nD τ).loc main_arg3) (ix2 ⟨512 + k.val, by omega⟩ l) := by
  blk_simp [iblk]; entry_read; pointwise; blk_ext [idx t]

/-- The gain. -/
theorem blk5 (c : Dev nD) (t : Fin cfg0.N) (l : Fin 1024) : iblk m c 5 t (ix2 0 l)
    = m ((c : Thread nD τ).loc main_arg4) (ix1 l) := by
  blk_simp [iblk]; entry_read; pointwise; blk_ext [idx t]

/-- Where an element of a point's block sits in the result. -/
theorem place (t : Fin cfg0.N) (r l : Fin 1024) : ((cfg0.win 6).blk t).view.emb (ix2 r l) = (ix2 (row t r) l : S32768x1024.Idx) := by
  blk_ext [idx t]

/-- One element of a point's block: the two half-depth products added, normalised and added to the residual, are the
    reference's full-depth product treated the same way. -/
theorem point (c : Dev nD) (t : Fin cfg0.N) (y : S1024x1024.Idx) :
    k0_pay1 (iblk m c 1 t) (iblk m c 3 t) (iblk m c 2 t) (iblk m c 4 t) (iblk m c 0 t) (iblk m c 5 t) y
      = val_main_v17 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  idx_vars y
  rw [place]
  pointwise [k0_pay1, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, blk0, blk1, blk2, blk3, blk4, blk5]

/-- The result array after the run. -/
theorem final (c : Dev nD) : (dats m 0 c).arrAt 6 (cfgs 0).N
    = val_main_v17 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.Proof.OutTie
-- ==== Proof.RwkvFrame.lean ====
/-
  The recurrence's frame: its body runs at every grid point and gives its buffers back, so the launch runs, and the arrays that the
  host passes in end as they began. Nothing is said of what the body computes. Everything is over any float values.
-/
module

public import proofs.«01_k».proof.Proof.Gen.RwkvIdeal.Frame
public import proofs.«01_k».proof.Proof.Gen.RwkvIdeal.Skeleton
public import Idealize.ShloMosaic.Lib.Exec

@[expose] public section

set_option maxRecDepth 16384

noncomputable section

namespace Cert.RwkvIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.RwkvIdeal.Gen

variable {F : FTy → Type} [FloatOps F]

local notation "𝕄" => MT nD τ sig Unit (Elt F) ℕ (UR sig nD τ) ℕ

/-- Core `c` holds the buffer that `M` names, at contents nobody asks about. -/
def held (c : Dev nD) {sh : Shape} {e : EltTy} (M : Memref sig .tc .vmem sh e) : sProp 𝕄 :=
  iprop(∃ X, owns (c : Thread nD τ) M fullShare X)

/-- Everything one run of the recurrence's body touches: its fifteen inputs, its result and its three scratch buffers. -/
def allHeld (c : Dev nD) (arg2 : Memref sig .tc .vmem S1x1024x2176 .f32) (harg2 : arg2.IsWhole) (arg3 : Memref sig .tc .vmem S1x1024x512 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S512x32 .f32) (harg9 : arg9.IsWhole) (arg10 : Memref sig .tc .vmem S32x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S128x128 .bf16) (harg16 : arg16.IsWhole) (arg17 : Memref sig .tc .vmem S1x1024x512 .bf16) (harg17 : arg17.IsWhole) (arg18 : Memref sig .tc .vmem S1x8x64x64 .f32) (harg18 : arg18.IsWhole) (arg19 : Memref sig .tc .vmem S1x1024x512 .f32) (harg19 : arg19.IsWhole) (arg20 : Memref sig .tc .vmem S1x1024x512 .f32) (harg20 : arg20.IsWhole) : sProp 𝕄 :=
  iprop(held c arg2
        ∗ held c arg3
        ∗ held c arg4
        ∗ held c arg5
        ∗ held c arg6
        ∗ held c arg7
        ∗ held c arg8
        ∗ held c arg9
        ∗ held c arg10
        ∗ held c arg11
        ∗ held c arg12
        ∗ held c arg13
        ∗ held c arg14
        ∗ held c arg15
        ∗ held c arg16
        ∗ held c arg17
        ∗ held c arg18
        ∗ held c arg19
        ∗ held c arg20)

set_option maxHeartbeats 40000000 in
set_option sl_exec.squeezeSlice true in
/-- The recurrence's body, at any grid point and on any buffers of the right shapes, runs to its end and gives every
    buffer back: at a sequence's first block, where it clears the state, and at a later one. -/
theorem body_runs (c : Dev nD) (i : grid0.Coords) (arg2 : Memref sig .tc .vmem S1x1024x2176 .f32) (harg2 : arg2.IsWhole) (arg3 : Memref sig .tc .vmem S1x1024x512 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S512x32 .f32) (harg9 : arg9.IsWhole) (arg10 : Memref sig .tc .vmem S32x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S128x128 .bf16) (harg16 : arg16.IsWhole) (arg17 : Memref sig .tc .vmem S1x1024x512 .bf16) (harg17 : arg17.IsWhole) (arg18 : Memref sig .tc .vmem S1x8x64x64 .f32) (harg18 : arg18.IsWhole) (arg19 : Memref sig .tc .vmem S1x1024x512 .f32) (harg19 : arg19.IsWhole) (arg20 : Memref sig .tc .vmem S1x1024x512 .f32) (harg20 : arg20.IsWhole)
    (E : Set ℕ) (K : PUnit → sProp 𝕄) :
    iprop(allHeld (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
        ∗ (allHeld (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 -∗ K ⟨⟩))
      ⊢ wp frame (wpE (defs₀ (F := F)) Variants.none c none) E (cc0_rwkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_rwkv_eq_skeleton]; unfold cc0_rwkv_skel
  unfold allHeld held owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  by_cases hc : (Scalar.cmpi .ne (Scalar.extui (Scalar.cmpi .eq (BitVec.ofNat 32 (i 1).val) 0#32)) 0#32) = 1#1
  all_goals
    sl_exec_parts (disch := first | sl_exact hc)
    sl_step
    iapply Hk
    isplitl [H2]; · iexists _, _; isplitr; (swap; · iexact H2); ipureintro; rfl
    isplitl [H3]; · iexists _, _; isplitr; (swap; · iexact H3); ipureintro; rfl
    isplitl [H4]; · iexists _, _; isplitr; (swap; · iexact H4); ipureintro; rfl
    isplitl [H5]; · iexists _, _; isplitr; (swap; · iexact H5); ipureintro; rfl
    isplitl [H6]; · iexists _, _; isplitr; (swap; · iexact H6); ipureintro; rfl
    isplitl [H7]; · iexists _, _; isplitr; (swap; · iexact H7); ipureintro; rfl
    isplitl [H8]; · iexists _, _; isplitr; (swap; · iexact H8); ipureintro; rfl
    isplitl [H9]; · iexists _, _; isplitr; (swap; · iexact H9); ipureintro; rfl
    isplitl [H10]; · iexists _, _; isplitr; (swap; · iexact H10); ipureintro; rfl
    isplitl [H11]; · iexists _, _; isplitr; (swap; · iexact H11); ipureintro; rfl
    isplitl [H12]; · iexists _, _; isplitr; (swap; · iexact H12); ipureintro; rfl
    isplitl [H13]; · iexists _, _; isplitr; (swap; · iexact H13); ipureintro; rfl
    isplitl [H14]; · iexists _, _; isplitr; (swap; · iexact H14); ipureintro; rfl
    isplitl [H15]; · iexists _, _; isplitr; (swap; · iexact H15); ipureintro; rfl
    isplitl [H16]; · iexists _, _; isplitr; (swap; · iexact H16); ipureintro; rfl
    isplitl [H17]; · iexists _, _; isplitr; (swap; · iexact H17); ipureintro; rfl
    isplitl [H18]; · iexists _, _; isplitr; (swap; · iexact H18); ipureintro; rfl
    isplitl [H19]; · iexists _, _; isplitr; (swap; · iexact H19); ipureintro; rfl
    iexists _, _; isplitr; (swap; · iexact H20); ipureintro; rfl

variable (m : (ℓ : Loc nD τ sig) → Buf (Elt F) ℓ) (ρ : Dev nD → PrngReg)

/-! ## From the body to the launch -/

/-- What the launch is told of the pipeline on core `c`: every array as the region finds it, nothing of what the body
    leaves in any window, the scratch buffers and the generator register held between grid points, nothing owed. -/
def told (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The arrays the launch is told of are those the region finds. -/
theorem told_A (c : Dev nD) (w : Fin cfg0.W) : (told m 0 c).A w = V m c (Pipeline.arrRef spec0 w) := by
  dsimp only [told]

/-- Every window is forgotten: the claim reads no block. -/
def forgets : Fin 16 → Bool := fun _ => true

/-- What is kept between grid points, its three scratch buffers spelled out. -/
theorem kept_eq (c : Dev nD) :
    (Pipeline.ΦA spec0 c : sProp 𝕄)
      = iprop(iprop(held c (Memref.whole cc0_scratch0) ∗ held c (Memref.whole cc0_scratch1) ∗ held c (Memref.whole cc0_scratch2))
          ∗ (∃ r, prngReg c r)) := by
  unfold Pipeline.ΦA held; rw [scopedRest0_eq]; simp only [owns_whole]; try rfl

/-- The staging buffer in use for each window at grid point `t`, held. -/
def staged (c : Dev nD) (t : Fin cfg0.N) : sProp 𝕄 :=
  iprop(held c (st0_0 t)
    ∗ held c (st0_1 t)
    ∗ held c (st0_2 t)
    ∗ held c (st0_3 t)
    ∗ held c (st0_4 t)
    ∗ held c (st0_5 t)
    ∗ held c (st0_6 t)
    ∗ held c (st0_7 t)
    ∗ held c (st0_8 t)
    ∗ held c (st0_9 t)
    ∗ held c (st0_10 t)
    ∗ held c (st0_11 t)
    ∗ held c (st0_12 t)
    ∗ held c (st0_13 t)
    ∗ held c (st0_14 t)
    ∗ held c (st0_15 t))

/-- The body at any grid point: from the kept buffers and the staged windows to the same again. -/
theorem body_at (c : Dev nD) (t : Fin cfg0.N) :
    iprop((told m 0 c).Φ t.castSucc ∗ (told m 0 c).owesAt () t.castSucc ∗ staged (F := F) c t)
      ⊢ wp frame (wpE (defs₀ (F := F)) Variants.none c none) Set.univ (bodyAt0 t)
          fun _ => iprop((told m 0 c).Φ t.succ ∗ (told m 0 c).owesAt () t.succ ∗ staged (F := F) c t) := by
  unfold bodyAt0
  rw [show (told m 0 c).Φ t.succ = Pipeline.ΦA spec0 c from rfl, show (told m 0 c).Φ t.castSucc = Pipeline.ΦA spec0 c from rfl,
    show (told m 0 c).owesAt () t.succ = (told m 0 c).owesAt () t.castSucc from rfl, kept_eq]
  unfold staged
  iintro ⟨⟨⟨HS0, HS1, HS2⟩, Hg⟩, Ho, H0, H1, H2, H3, H4, H5, H6, H7, H8, H9, H10, H11, H12, H13, H14, H15⟩
  iapply (body_runs (F := F) c (grid0.coords t) _ _ _ _ _ _ _ _ _ _ _ _ _ _ _ _ _ _ _ _ _ _ _ _ _ _ _ _ _ _ _ _ _ _ _ _ _ _ Set.univ _)
  unfold allHeld
  isplitl [H0 H1 H2 H3 H4 H5 H6 H7 H8 H9 H10 H11 H12 H13 H14 H15 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    iexact HS2
  iintro ⟨H0, H1, H2, H3, H4, H5, H6, H7, H8, H9, H10, H11, H12, H13, H14, H15, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body the launch calls at a grid point is the kernel on that point's buffers. -/
theorem body_row (t : Fin cfg0.N) : defs₀ (F := F) .tc cfg0.body (cfg0.bodyArgs t (cfg0.slots t)) = bodyAt0 t := by
  unfold defs₀; rw [Defs.onTc_tc]

/-- The body meets what the launch asks of it at every grid point. -/
theorem body_meets (c : Dev nD) :
    BodyObligation (told (F := F) m 0 c) (defs₀ (F := F)) Variants.none () Set.univ forgets := fun t => by
  rw [bigSep_W0, bigSep_W0, body_row]
  exact triple_restated (body_at m c t) rfl .rfl fun _ => .rfl

set_option maxHeartbeats 2000000 in
set_option backward.isDefEq.respectTransparency.types false in
/-- The launch: every execution ends, each input array and every buffer outside the pipeline as the region found it, every
    semaphore counter at zero. -/
theorem run_main :
    θ_run defs (onTc (τ := τ) (main (F := F))) (s₀ m ρ)
      (fun r => Pipeline.RDat.FramePost (cfgs 0) (fun c => (told m 0 c).toRForget forgets) (V m) r ∧ r.2.sem = fun _ => 0) :=
  Pipeline.θ_run_frame_forget (Q' := _) cfgs (told m) (0 : Fin 1) launch0 defs₀ Variants.none forgets m ρ main
    (hbody := fun c => (body_meets m c).loose) (hshare := fun c => (told m 0 c).share_full fun _ => rfl)
    (howed := fun _ _ => rfl) (V := V m) (hmain := hmain m Variants.none) (hA := told_A m) (hΦ := fun _ _ => rfl)

/-- After the launch an input window's array is as the region found it. -/
theorem input_kept {r : PUnit × MemSt nD τ sig (Elt F)}
    (h : Pipeline.RDat.FramePost (cfgs 0) (fun c => (told (F := F) m 0 c).toRForget forgets) (V m) r) (c : Dev nD) (w : Fin 16)
    (hin : (cfg0.win w).isOut = false) :
    r.2.mem ((cfg0.spec w).arr.view.loc (c.tc : Thread nD τ)) = V m c (Pipeline.arrRef spec0 w) :=
  (h.arr_in c w hin).trans (told_A m c w)

/-- The recurrence's frame at any float values: its fourteen arguments end as they began, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨(input_kept m h.1 c 0 rfl).trans (V_main_arg0 m c),
      (input_kept m h.1 c 1 rfl).trans (V_main_arg1 m c),
      ((h.1 c).2 main_arg2 (Pipeline.mem_restRefs_of main_arg2 (by decide) (by decide))).trans (V_main_arg2 m c),
      (input_kept m h.1 c 3 rfl).trans (V_main_arg3 m c),
      ((h.1 c).2 main_arg4 (Pipeline.mem_restRefs_of main_arg4 (by decide) (by decide))).trans (V_main_arg4 m c),
      (input_kept m h.1 c 5 rfl).trans (V_main_arg5 m c),
      ((h.1 c).2 main_arg6 (Pipeline.mem_restRefs_of main_arg6 (by decide) (by decide))).trans (V_main_arg6 m c),
      (input_kept m h.1 c 7 rfl).trans (V_main_arg7 m c),
      (input_kept m h.1 c 8 rfl).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c)⟩, h.2⟩) (run_main m ρ)

end Cert.RwkvIdeal

end
-- ==== Proof.lean ====
/-
  The claims about the input projection, the convolution module, the output projection and the recurrence: every program's frame
  (the recurrence's by hand, Proof/RwkvFrame.lean), that each idealization keeps its program's text, and that the kernel's results
  are the reference's for the first three (Proof/InprojValue.lean, Proof/ConvValue.lean, Proof/OutValue.lean).
-/
module

public import proofs.«01_k».proof.Defs
public import proofs.«01_k».proof.Proof.InprojValue
public import proofs.«01_k».proof.Proof.ConvValue
public import proofs.«01_k».proof.Proof.OutValue
public import proofs.«01_k».proof.Proof.RwkvFrame
public import proofs.«01_k».proof.Proof.Gen.ReferenceIdeal.Run
public import proofs.«01_k».proof.Proof.Gen.ConvRefIdeal.Run
public import proofs.«01_k».proof.Proof.Gen.OutRefIdeal.Run
public import proofs.«01_k».proof.Proof.Gen.Kernel.Frame
public import proofs.«01_k».proof.Proof.Gen.Conv.Frame
public import proofs.«01_k».proof.Proof.Gen.Out.Frame
public import proofs.«01_k».proof.Proof.Gen.Rwkv
public import Idealize.ShloMosaic.Lib.Quiescent

@[expose] public section

noncomputable section

namespace Cert.Proof

open Idealize.ShloMosaic Idealize.SL.Sem

/-- The input projection's reference runs, leaves its arguments and ends with its counters at zero. -/
theorem frame_inproj_ref : Cert.quiescent_ReferenceIdeal (hReferenceIdeal := Cert.ReferenceIdeal.Gen.facts) := fun m g _ =>
  (θ_run (Cert.ReferenceIdeal.defs (F := Ideal)) _ _).mono
    (fun r h => ⟨fun c => (h c).2.2, sem_eq_zero_of_no_sems (by decide) r.2⟩) (Cert.ReferenceIdeal.Value.run (F := Ideal) m g)

/-- The convolution module's reference runs, leaves its arguments and ends with its counters at zero. -/
theorem frame_conv_ref : Cert.quiescent_ConvRefIdeal (hConvRefIdeal := Cert.ConvRefIdeal.Gen.facts) := fun m g _ =>
  (θ_run (Cert.ConvRefIdeal.defs (F := Ideal)) _ _).mono
    (fun r h => ⟨fun c => (h c).2, sem_eq_zero_of_no_sems (by decide) r.2⟩) (Cert.ConvRefIdeal.Value.run (F := Ideal) m g)

/-- The output projection's reference runs, leaves its arguments and ends with its counters at zero. -/
theorem frame_out_ref : Cert.quiescent_OutRefIdeal (hOutRefIdeal := Cert.OutRefIdeal.Gen.facts) := fun m g _ =>
  (θ_run (Cert.OutRefIdeal.defs (F := Ideal)) _ _).mono
    (fun r h => ⟨fun c => (h c).2, sem_eq_zero_of_no_sems (by decide) r.2⟩) (Cert.OutRefIdeal.Value.run (F := Ideal) m g)

/-- The input projection: both of the kernel's results are the reference's. -/
theorem inproj : Cert.algebraic_KernelIdeal_ReferenceIdeal (hKernelIdeal := Cert.KernelIdeal.Gen.facts)
    (hReferenceIdeal := Cert.ReferenceIdeal.Gen.facts) := by
  intro m g m' g' _ hargs
  refine ⟨fun c => _, fun c => _, Cert.KernelIdeal.Value.run_blocks (F := Ideal) m g, ?_⟩
  refine (θ_run (Cert.ReferenceIdeal.defs (F := Ideal)) _ _).mono (fun r h c => ?_) (Cert.ReferenceIdeal.Value.run (F := Ideal) m' g')
  obtain ⟨h5, h6, h⟩ := h c
  refine ⟨h5.trans ?_, h6.trans ?_, h⟩
  · rw [Cert.ReferenceIdeal.Read.val_main_v40_eq, (hargs c).1, (hargs c).2.1, (hargs c).2.2.1, (hargs c).2.2.2]
    exact (InprojTie.final5 m c).symm
  · rw [Cert.ReferenceIdeal.Read.val_main_v41_eq, (hargs c).1, (hargs c).2.1, (hargs c).2.2.1]
    exact (InprojTie.final6 m c).symm

/-- The convolution module: the kernel's result is the reference's. -/
theorem conv : Cert.algebraic_ConvIdeal_ConvRefIdeal (hConvIdeal := Cert.ConvIdeal.Gen.facts)
    (hConvRefIdeal := Cert.ConvRefIdeal.Gen.facts) := by
  intro m g m' g' _ hargs
  refine ⟨fun c => _, Cert.ConvIdeal.Value.run_blocks (F := Ideal) m g, ?_⟩
  refine (θ_run (Cert.ConvRefIdeal.defs (F := Ideal)) _ _).mono (fun r h c => ?_) (Cert.ConvRefIdeal.Value.run (F := Ideal) m' g')
  obtain ⟨h5, h⟩ := h c
  refine ⟨h5.trans ?_, h⟩
  rw [Cert.ConvRefIdeal.Read.val_main_v248_eq]
  repeat rw [StableHlo.launchContents_devRef]
  rw [(hargs c).1, (hargs c).2.1, (hargs c).2.2.1, (hargs c).2.2.2.1, (hargs c).2.2.2.2]
  exact (ConvTie.final m c).symm

/-- The output projection: the kernel's result is the reference's. -/
theorem out : Cert.algebraic_OutIdeal_OutRefIdeal (hOutIdeal := Cert.OutIdeal.Gen.facts)
    (hOutRefIdeal := Cert.OutRefIdeal.Gen.facts) := by
  intro m g m' g' _ hargs
  refine ⟨fun c => _, Cert.OutIdeal.Value.run_blocks (F := Ideal) m g, ?_⟩
  refine (θ_run (Cert.OutRefIdeal.defs (F := Ideal)) _ _).mono (fun r h c => ?_) (Cert.OutRefIdeal.Value.run (F := Ideal) m' g')
  obtain ⟨h6, h⟩ := h c
  refine ⟨h6.trans ?_, h⟩
  rw [Cert.OutRefIdeal.Read.val_main_v17_eq, (hargs c).1, (hargs c).2.1, (hargs c).2.2.1, (hargs c).2.2.2.1, (hargs c).2.2.2.2]
  exact (OutTie.final m c).symm

/-- The recurrence's idealization runs, leaves its arguments and ends with its counters at zero. -/
theorem frame_rwkv_ideal : Cert.quiescent_RwkvIdeal (hRwkvIdeal := Cert.RwkvIdeal.Gen.facts) := fun m g _ =>
  Cert.RwkvIdeal.frame (F := Ideal) m g

set_option maxHeartbeats 40000000 in
/-- The recurrence's kernel and its idealization call one body. -/
theorem rwkv_bodies : Cert.Rwkv.defs₀ (F := Bits) = Cert.RwkvIdeal.defs₀ (F := Bits) := by
  refine congrArg Defs.onTc ?_
  funext l a
  match l, a with
  | 0, (t, s) => rfl
  | ⟨_ + 1, h⟩, _ => exact absurd h (Nat.not_lt.2 (Nat.le_add_left _ _))

set_option maxHeartbeats 40000000 in
/-- The recurrence's kernel does the same: the two programs have one text, and the run is written for any numbers. -/
theorem frame_rwkv : Cert.quiescent_Rwkv (hRwkv := Cert.Rwkv.Gen.facts) := fun m g _ => by
  have run := Cert.RwkvIdeal.frame (F := Bits) m g
  rw [show Cert.RwkvIdeal.defs (F := Bits) = Pipeline.defs Cert.RwkvIdeal.pcfgs Cert.RwkvIdeal.defs₀ from rfl,
    ← rwkv_bodies] at run
  exact run

/-- The four calls' frames and idealizations, and the values of three. -/
theorem claim : Cert.Claim :=
  ⟨Cert.Kernel.Gen.facts, Cert.KernelIdeal.Gen.facts, Cert.ReferenceIdeal.Gen.facts,
    Cert.Conv.Gen.facts, Cert.ConvIdeal.Gen.facts, Cert.ConvRefIdeal.Gen.facts,
    Cert.Out.Gen.facts, Cert.OutIdeal.Gen.facts, Cert.OutRefIdeal.Gen.facts,
    Cert.Rwkv.Gen.facts, Cert.RwkvIdeal.Gen.facts,
    fun m g _ => Cert.Kernel.Gen.frame m g, fun m g _ => Cert.KernelIdeal.Gen.frame m g, frame_inproj_ref,
    fun m g _ => Cert.Conv.Gen.frame m g, fun m g _ => Cert.ConvIdeal.Gen.frame m g, frame_conv_ref,
    fun m g _ => Cert.Out.Gen.frame m g, fun m g _ => Cert.OutIdeal.Gen.frame m g, frame_out_ref,
    frame_rwkv, frame_rwkv_ideal,
    trivial, inproj, trivial, conv, trivial, out, trivial⟩

end Cert.Proof

end
